-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2] ![[0], []] c) ((Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2] ![[0], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v142) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x1x4 : Shape := ⟨3, ![512, 1, 4]⟩
abbrev S512x4x1 : Shape := ⟨3, ![512, 4, 1]⟩
abbrev S512x4x4 : Shape := ⟨3, ![512, 4, 4]⟩
abbrev S_ : Shape := ⟨0, ![]⟩
abbrev S512 : Shape := ⟨1, ![512]⟩
abbrev S512x1 : Shape := ⟨2, ![512, 1]⟩

class Facts : Prop where
  bcast_S512x4_S512x1x4_0_2 : S512x4.BroadcastsInDim S512x1x4 (![0, 2] : Fin 2 → Fin S512x1x4.rank)
  bcast_S512x4_S512x4x1_0_1 : S512x4.BroadcastsInDim S512x4x1 (![0, 1] : Fin 2 → Fin S512x4x1.rank)
  bcast_S512x1x4_S512x4x4_0_1_2 : S512x1x4.BroadcastsInDim S512x4x4 (![0, 1, 2] : Fin 3 → Fin S512x4x4.rank)
  bcast_S512x4x1_S512x4x4_0_1_2 : S512x4x1.BroadcastsInDim S512x4x4 (![0, 1, 2] : Fin 3 → Fin S512x4x4.rank)
  natLt_1_32 : 1 < 32
  reducesTo_S512x4x4_S512x4_d2 : S512x4x4.ReducesTo [2] S512x4
  h_S_ : 0 < S_.numel
  bcast_S_S512x4 : S_.BroadcastsInDim S512x4 (![] : Fin 0 → Fin S512x4.rank)
  reducesTo_S512x4_S512_d1 : S512x4.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn_part1 {F : FTy → Type} [FloatOps F] (main_v17 : IVec S512 1) : IVec S512x512 1 :=
  let main_v18 : IVec S512x1 1 := broadcastInDim S512x1 ![0] bcast_S512_S512x1_0 main_v17
  let main_v19 : IVec S512x512 1 := broadcastInDim S512x512 ![0, 1] bcast_S512x1_S512x512_0_1 main_v18
  main_v19

def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_v1 : FVec F S512x1x4 .f32 := broadcastInDim S512x1x4 ![0, 2] bcast_S512x4_S512x1x4_0_2 main_v0
  let main_v2 : FVec F S512x4x1 .f32 := broadcastInDim S512x4x1 ![0, 1] bcast_S512x4_S512x4x1_0_1 main_v0
  let main_v3 : FVec F S512x4x4 .f32 := broadcastInDim S512x4x4 ![0, 1, 2] bcast_S512x1x4_S512x4x4_0_1_2 main_v1
  let main_v4 : FVec F S512x4x4 .f32 := broadcastInDim S512x4x4 ![0, 1, 2] bcast_S512x4x1_S512x4x4_0_1_2 main_v2
  let main_v5 : IVec S512x4x4 1 := cmpf .oge main_v3 main_v4
  let main_v6 : IVec S512x4x4 32 := (extui 32 · natLt_1_32) main_v5
  let main_c : IVec S_ 32 := constantI S_ 32 0#32
  let main_v7 : IVec S512x4 32 := (fun x v => Host.reduce IntOp.addi x v reducesTo_S512x4x4_S512x4_d2 h_S_) main_v6 main_c
  let main_c_0 : IVec S_ 32 := constantI S_ 32 1#32
  let main_v8 : IVec S512x4 32 := broadcastInDim S512x4 ![] bcast_S_S512x4 main_c_0
  let main_v9 : IVec S512x4 1 := cmpi .eq main_v7 main_v8
  let main_cst : FVec F S_ .f32 := constant S_ .f32 0x7F800000#32
  let main_v10 : FVec F S512x4 .f32 := broadcastInDim S512x4 ![] bcast_S_S512x4 main_cst
  let main_v11 : IVec S512x4 1 := cmpf .olt main_v0 main_v10
  let main_v12 : IVec S512x4 1 := andi main_v9 main_v11
  let main_c_1 : IVec S_ 1 := constantI S_ 1 0#1
  let main_v13 : IVec S512 1 := (fun x v => Host.reduce IntOp.ori x v reducesTo_S512x4_S512_d1 h_S_) main_v12 main_c_1
  let main_c_2 : IVec S_ 32 := constantI S_ 32 2#32
  let main_v14 : IVec S512x4 32 := broadcastInDim S512x4 ![] bcast_S_S512x4 main_c_2
  let main_v15 : IVec S512x4 1 := cmpi .eq main_v7 main_v14
  let main_c_3 : IVec S_ 1 := constantI S_ 1 0#1
  let main_v16 : IVec S512 1 := (fun x v => Host.reduce IntOp.ori x v reducesTo_S512x4_S512_d1 h_S_) main_v15 main_c_3
  let main_v17 : IVec S512 1 := andi main_v13 main_v16
  fn_part1 (F := F) main_v17
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S512x512 : Shape := ⟨2, ![512, 512]⟩
abbrev S256x2 : Shape := ⟨2, ![256, 2]⟩
abbrev S2x128x512 : Shape := ⟨3, ![2, 128, 512]⟩
abbrev S5 : Shape := ⟨1, ![5]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x1024 : Shape := ⟨2, ![256, 1024]⟩
abbrev S512x4 : Shape := ⟨2, ![512, 4]⟩
abbrev S256x4 : Shape := ⟨2, ![256, 4]⟩
abbrev S256 : Shape := ⟨1, ![256]⟩
abbrev S256x1 : Shape := ⟨2, ![256, 1]⟩
abbrev S128x512 : Shape := ⟨2, ![128, 512]⟩
abbrev S128x1 : Shape := ⟨2, ![128, 1]⟩
abbrev S128x1024 : Shape := ⟨2, ![128, 1024]⟩
abbrev S1x128x512 : Shape := ⟨3, ![1, 128, 512]⟩

abbrev nBuf : Space → Nat
  | .hbm => 5
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S256x512, .f32⟩
  | .local _ .vmem, ⟨3, _⟩ => ⟨S2x512x1024, .f32⟩
  | .local _ .vmem, ⟨4, _⟩ => ⟨S2x1024x512, .f32⟩
  | .local _ .vmem, ⟨5, _⟩ => ⟨S512x512, .bf16⟩
  | .local _ .vmem, ⟨6, _⟩ => ⟨S512x2, .f32⟩
  | .local _ .vmem, ⟨7, _⟩ => ⟨S256x2, .f32⟩
  | .local _ .vmem, ⟨8, _⟩ => ⟨S256x2, .f32⟩
  | .local _ .vmem, ⟨9, _⟩ => ⟨S2x128x512, .bf16⟩
  | .local _ .vmem, ⟨10, _⟩ => ⟨S2x128x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v12 : BitVec 32 := Scalar.muli v6 c2_i32_5
  let v13 : BitVec 32 := Scalar.addi c0_i32_6 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v14 : BitVec 32 := Scalar.muli v5 c1_i32_7
  let v15 : BitVec 32 := Scalar.addi v13 v14
  v15.toNat
def k0_dev2 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v22 : BitVec 32 := Scalar.muli v6 c2_i32_14
  let v23 : BitVec 32 := Scalar.addi c0_i32_15 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v24 : BitVec 32 := Scalar.muli v5 c1_i32_16
  let v25 : BitVec 32 := Scalar.addi v23 v24
  v25.toNat
def k0_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v32 : BitVec 32 := Scalar.muli v6 c2_i32_22
  let v33 : BitVec 32 := Scalar.addi c0_i32_23 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v34 : BitVec 32 := Scalar.muli v5 c1_i32_24
  let v35 : BitVec 32 := Scalar.addi v33 v34
  v35.toNat
def k0_dev4 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v104 : BitVec 32 := Scalar.muli v6 c2_i32_67
  let v105 : BitVec 32 := Scalar.addi c0_i32_68 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v106 : BitVec 32 := Scalar.muli v5 c1_i32_69
  let v107 : BitVec 32 := Scalar.addi v105 v106
  v107.toNat
def k0_dev5 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v162 : BitVec 32 := Scalar.muli v6 c2_i32_109
  let v163 : BitVec 32 := Scalar.addi c0_i32_110 v162
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v164 : BitVec 32 := Scalar.muli v5 c1_i32_111
  let v165 : BitVec 32 := Scalar.addi v163 v164
  v165.toNat
def k0_dev6 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v196 : BitVec 32 := Scalar.muli v6 c2_i32_129
  let v197 : BitVec 32 := Scalar.addi c0_i32_130 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v198 : BitVec 32 := Scalar.muli v5 c1_i32_131
  let v199 : BitVec 32 := Scalar.addi v197 v198
  v199.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 221
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x4, .f32⟩
  | 6 => ⟨S512x4, .i32⟩
  | 7 => ⟨S512x4, .f32⟩
  | 8 => ⟨S512x4, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S_, .f32⟩
  | 44 => ⟨S512x512, .f32⟩
  | 45 => ⟨S512x1, .i32⟩
  | 46 => ⟨S_, .i32⟩
  | 47 => ⟨S512x1, .i32⟩
  | 48 => ⟨S512x1, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x512, .f32⟩
  | 56 => ⟨S1024x512, .f32⟩
  | 57 => ⟨S512x512, .f32⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S1x512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S_, .i32⟩
  | 91 => ⟨S512x1, .i32⟩
  | 92 => ⟨S512x1, .i1⟩
  | 93 => ⟨S1x512x1024, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S1x1024x512, .f32⟩
  | 100 => ⟨S1024x512, .f32⟩
  | 101 => ⟨S512x512, .f32⟩
  | 102 => ⟨S512x1, .f32⟩
  | 103 => ⟨S512x512, .f32⟩
  | 104 => ⟨S512x512, .f32⟩
  | 105 => ⟨S_, .f32⟩
  | 106 => ⟨S_, .f32⟩
  | 107 => ⟨S512x512, .i1⟩
  | 108 => ⟨S512x512, .f32⟩
  | 109 => ⟨S512x512, .f32⟩
  | 110 => ⟨S512x512, .f32⟩
  | 111 => ⟨S512x1, .i32⟩
  | 112 => ⟨S_, .i32⟩
  | 113 => ⟨S512x1, .i32⟩
  | 114 => ⟨S512x1, .i1⟩
  | 115 => ⟨S1x512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x512, .f32⟩
  | 122 => ⟨S1024x512, .f32⟩
  | 123 => ⟨S512x512, .f32⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S1x512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S1x1024x512, .f32⟩
  | 16 => ⟨S1024x512, .f32⟩
  | 17 => ⟨S512x512, .f32⟩
  | 18 => ⟨S512x1, .f32⟩
  | 19 => ⟨S512x512, .f32⟩
  | 20 => ⟨S512x512, .f32⟩
  | 21 => ⟨S_, .f32⟩
  | 22 => ⟨S_, .f32⟩
  | 23 => ⟨S512x512, .i1⟩
  | 24 => ⟨S512x512, .f32⟩
  | 25 => ⟨S512x512, .f32⟩
  | 26 => ⟨S512x512, .f32⟩
  | 27 => ⟨S512x1, .i32⟩
  | 28 => ⟨S_, .i32⟩
  | 29 => ⟨S512x1, .i32⟩
  | 30 => ⟨S512x1, .i1⟩
  | 31 => ⟨S1x512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x512, .f32⟩
  | 38 => ⟨S1024x512, .f32⟩
  | 39 => ⟨S512x512, .f32⟩
  | 40 => ⟨S512x1, .f32⟩
  | 41 => ⟨S512x512, .f32⟩
  | 42 => ⟨S512x512, .f32⟩
  | 43 => ⟨S_, .f32⟩
  | 44 => ⟨S_, .f32⟩
  | 45 => ⟨S512x512, .i1⟩
  | 46 => ⟨S512x512, .f32⟩
  | 47 => ⟨S512x512, .f32⟩
  | 48 => ⟨S512x512, .f32⟩
  | 49 => ⟨S512x1, .i32⟩
  | 50 => ⟨S_, .i32⟩
  | 51 => ⟨S512x1, .i32⟩
  | 52 => ⟨S512x1, .i1⟩
  | 53 => ⟨S1x512x1024, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S1x1024x512, .f32⟩
  | 60 => ⟨S1024x512, .f32⟩
  | 61 => ⟨S512x512, .f32⟩
  | 62 => ⟨S512x1, .f32⟩
  | 63 => ⟨S512x512, .f32⟩
  | 64 => ⟨S512x512, .f32⟩
  | 65 => ⟨S_, .f32⟩
  | 66 => ⟨S_, .f32⟩
  | 67 => ⟨S512x512, .i1⟩
  | 68 => ⟨S512x512, .f32⟩
  | 69 => ⟨S512x512, .f32⟩
  | 70 => ⟨S512x512, .f32⟩
  | 71 => ⟨S512x1, .i32⟩
  | 72 => ⟨S_, .i32⟩
  | 73 => ⟨S512x1, .i32⟩
  | 74 => ⟨S512x1, .i1⟩
  | 75 => ⟨S1x512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x512, .f32⟩
  | 82 => ⟨S1024x512, .f32⟩
  | 83 => ⟨S512x512, .f32⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_16 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_18 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_20 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_21 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_22 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_23 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩

abbrev nD : Nat := 1
abbrev τ : Topo := Topo.v7x

variable {F : FTy → Type} [FloatOps F]
-- ==== Proof.Mesh.lean ====
/-
The exchange between the two partners of the kernel: who talks to whom, over which buffers and semaphores, what
each message carries, and the schedule of the thirteen semaphores a device uses.

Device `2x + y` works with the device at the other `x` of the same `y`. Each sends the other five blocks: its router
columns, its rows of `x`, the weights of the partner's experts, and the two halves of what its own experts make of the
partner's rows.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Unit
abbrev UU : Type := UR sig nD τ × UB

/-- The states of the run, over the float values `F`. -/
abbrev MF (F : FTy → Type) := MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- Memory `m`, every counter zero, generator registers `ρ`. -/
def s₀ : MemSt nD τ sig (Elt F) := ⟨m, fun _ => 0, ρ⟩

/-! ## Partners -/

set_option backward.proofsInPublic true in
/-- The device at the other `x` and the same `y`. -/
def peer (c : Dev nD) : Dev nD := ⟨(c.val + 2) % 4, Nat.mod_lt _ (by decide)⟩

/-- Being partners is mutual. -/
theorem peer_peer (c : Dev nD) : peer (peer c) = c := by revert c; decide

/-- Partnership as a permutation of the devices. -/
def swap : Dev nD ≃ Dev nD := ⟨peer, peer, peer_peer, peer_peer⟩

/-- The partner's number, as the kernel computes it. -/
theorem arith_peer (c : Dev nD) : ((c.val % 2) + 2) - 2 * (c.val / 2) = (peer c).val := by revert c; decide

theorem dev1_eq (c : Dev nD) : (⟨k0_dev1 c, k0_dev1_lt c⟩ : Dev nD) = peer c := Fin.ext ((k0_dev1_eq c).trans (arith_peer c))
theorem dev2_eq (c : Dev nD) : (⟨k0_dev2 c, k0_dev2_lt c⟩ : Dev nD) = peer c := Fin.ext ((k0_dev2_eq c).trans (arith_peer c))
theorem dev3_eq (c : Dev nD) : (⟨k0_dev3 c, k0_dev3_lt c⟩ : Dev nD) = peer c := Fin.ext ((k0_dev3_eq c).trans (arith_peer c))
theorem dev4_eq (c : Dev nD) : (⟨k0_dev4 c, k0_dev4_lt c⟩ : Dev nD) = peer c := Fin.ext ((k0_dev4_eq c).trans (arith_peer c))
theorem dev5_eq (c : Dev nD) : (⟨k0_dev5 c, k0_dev5_lt c⟩ : Dev nD) = peer c := Fin.ext ((k0_dev5_eq c).trans (arith_peer c))
theorem dev6_eq (c : Dev nD) : (⟨k0_dev6 c, k0_dev6_lt c⟩ : Dev nD) = peer c := Fin.ext ((k0_dev6_eq c).trans (arith_peer c))

/-! ## Buffers -/

abbrev xM : Memref sig .tc .vmem S256x512 .f32 := Memref.whole cc0_stg0_0
abbrev rM : Memref sig .tc .vmem S512x2 .f32 := Memref.whole cc0_stg1_0
abbrev oM : Memref sig .tc .vmem S256x512 .f32 := Memref.whole cc0_stg2_0
abbrev w1M : Memref sig .tc .hbm S2x512x1024 .f32 := Memref.whole main_arg2
abbrev w2M : Memref sig .tc .hbm S2x1024x512 .f32 := Memref.whole main_arg3
abbrev u1M : Memref sig .tc .vmem S2x512x1024 .f32 := Memref.whole cc0_scratch0
abbrev u2M : Memref sig .tc .vmem S2x1024x512 .f32 := Memref.whole cc0_scratch1
abbrev xfM : Memref sig .tc .vmem S512x512 .bf16 := Memref.whole cc0_scratch2
abbrev rpM : Memref sig .tc .vmem S512x2 .f32 := Memref.whole cc0_scratch3
abbrev wsM : Memref sig .tc .vmem S256x2 .f32 := Memref.whole cc0_scratch4
abbrev wrM : Memref sig .tc .vmem S256x2 .f32 := Memref.whole cc0_scratch5
abbrev csM : Memref sig .tc .vmem S2x128x512 .bf16 := Memref.whole cc0_scratch6
abbrev brM : Memref sig .tc .vmem S2x128x512 .bf16 := Memref.whole cc0_scratch7

/-- The two halves of the gathered rows: the device's own, and its partner's. -/
abbrev rLo : Rect S512x512 := Rect.unit (s := S512x512) ![0, 0] S256x512.size inb_S512x512_S256x512_0_0
abbrev rHi : Rect S512x512 := Rect.unit (s := S512x512) ![256, 0] S256x512.size inb_S512x512_S256x512_256_0
abbrev loM : Memref sig .tc .vmem S256x512 .bf16 := xfM.slice rLo (fun _ => rfl)
abbrev hiM : Memref sig .tc .vmem S256x512 .bf16 := xfM.slice rHi (fun _ => rfl)

/-- The two chunks of a two-chunk buffer. -/
abbrev rC0 : Rect S2x128x512 := Rect.unit (s := S2x128x512) ![0, 0, 0] S1x128x512.size inb_S2x128x512_S1x128x512_0_0_0
abbrev rC1 : Rect S2x128x512 := Rect.unit (s := S2x128x512) ![1, 0, 0] S1x128x512.size inb_S2x128x512_S1x128x512_1_0_0
abbrev cs0M : Memref sig .tc .vmem S128x512 .bf16 := Memref.squeeze (csM.slice rC0 (fun _ => rfl)) S128x512 squeezes_S1x128x512_S128x512
abbrev cs1M : Memref sig .tc .vmem S128x512 .bf16 := Memref.squeeze (csM.slice rC1 (fun _ => rfl)) S128x512 squeezes_S1x128x512_S128x512
abbrev br0M : Memref sig .tc .vmem S128x512 .bf16 := Memref.squeeze (brM.slice rC0 (fun _ => rfl)) S128x512 squeezes_S1x128x512_S128x512
abbrev br1M : Memref sig .tc .vmem S128x512 .bf16 := Memref.squeeze (brM.slice rC1 (fun _ => rfl)) S128x512 squeezes_S1x128x512_S128x512

/-! ## Semaphores -/

/-- The barrier semaphore the partners' handshake runs on. -/
abbrev barS : Sem sig := (SemArray.scalar (sig.barrier 0 rfl) : Sems sig S_).sem

/-- A device's thirteen semaphores: the barrier (0), the five send semaphores (1–5), the five receive semaphores
    (6–10), the two of the local copies (11, 12). -/
abbrev csem : Fin 13 → SemLoc sig := fun
  | 0 => .reg barS
  | 1 => .dma 3 | 2 => .dma 4 | 3 => .dma 5 | 4 => .dma 6 | 5 => .dma 7
  | 6 => .dma 8 | 7 => .dma 9 | 8 => .dma 10 | 9 => .dma 11 | 10 => .dma 12
  | 11 => .dma 13 | 12 => .dma 14

/-- The thirteen semaphores are different. -/
theorem csem_injective : Function.Injective csem := by decide

/-- Device `c`'s semaphore `k`. -/
abbrev kcell (c : Dev nD) (k : Fin 13) : GSem nD τ sig := ((c : Thread nD τ), csem k)

/-- Which of the thirteen a semaphore is. -/
def kidx (s : SemLoc sig) : Option (Fin 13) := (List.finRange 13).find? fun k => csem k = s

/-- The number of a semaphore, found again. -/
theorem kidx_csem (k : Fin 13) : kidx (csem k) = some k := by revert k; decide

/-- What one completed message adds to semaphore `k`. -/
abbrev amt : Fin 13 → ℕ := fun
  | 0 => 1
  | 1 => rpM.view.dmaCredit | 2 => hiM.view.dmaCredit | 3 => wrM.view.dmaCredit | 4 => br0M.view.dmaCredit | 5 => br1M.view.dmaCredit
  | 6 => rpM.view.dmaCredit | 7 => hiM.view.dmaCredit | 8 => wrM.view.dmaCredit | 9 => br0M.view.dmaCredit | 10 => br1M.view.dmaCredit
  | 11 => u1M.view.dmaCredit | 12 => u2M.view.dmaCredit

/-- Every semaphore is raised by something. -/
theorem amt_pos (k : Fin 13) : 0 < amt k := by
  fin_cases k
  · exact Nat.one_pos
  all_goals exact View.dmaCredit_pos _ (by decide)

/-! ## Contents -/

/-- Device `c`'s rows of `x`, its router columns, its two experts' weights. -/
def xs (c : Dev nD) : Vec F S256x512 .f32 := iblk m c 0 t0_0
def rt (c : Dev nD) : Vec F S512x2 .f32 := iblk m c 1 t0_0
def w1 (c : Dev nD) : Vec F S2x512x1024 .f32 := m ((c : Thread nD τ).loc main_arg2)
def w2 (c : Dev nD) : Vec F S2x1024x512 .f32 := m ((c : Thread nD τ).loc main_arg3)

abbrev rA0 : Rect S2x512x1024 := Rect.unit (s := S2x512x1024) ![0, 0, 0] S1x512x1024.size inb_S2x512x1024_S1x512x1024_0_0_0
abbrev rA1 : Rect S2x512x1024 := Rect.unit (s := S2x512x1024) ![1, 0, 0] S1x512x1024.size inb_S2x512x1024_S1x512x1024_1_0_0
abbrev rB0 : Rect S2x1024x512 := Rect.unit (s := S2x1024x512) ![0, 0, 0] S1x1024x512.size inb_S2x1024x512_S1x1024x512_0_0_0
abbrev rB1 : Rect S2x1024x512 := Rect.unit (s := S2x1024x512) ![1, 0, 0] S1x1024x512.size inb_S2x1024x512_S1x1024x512_1_0_0

def a0 (c : Dev nD) : Vec F S1x512x1024 .f32 := fun i => w1 m c (rA0.idx i)
def a1 (c : Dev nD) : Vec F S1x512x1024 .f32 := fun i => w1 m c (rA1.idx i)
def b0 (c : Dev nD) : Vec F S1x1024x512 .f32 := fun i => w2 m c (rB0.idx i)
def b1 (c : Dev nD) : Vec F S1x1024x512 .f32 := fun i => w2 m c (rB1.idx i)

/-- The device's rows of `x` in the narrow format, as sent to the partner. -/
def xn (c : Dev nD) : Vec F S256x512 .bf16 := k0_pay3 (xs m c)

/-- The device's unnormalised routing weights and their row sums. -/
def ex (c : Dev nD) : FVec F S256x4 .f32 := k0_pay10 (rt m c) (rt m (peer c)) (xs m c)
def exSum (c : Dev nD) : FVec F S256 .f32 := k0_pay11 (rt m c) (rt m (peer c)) (xs m c)

/-- The weights of the partner's two experts for the device's rows, as sent to the partner. -/
def ws (c : Dev nD) : FVec F S256x2 .f32 := k0_pay13 (ex m c) (exSum m c)

/-- The device's own experts on its own rows, weighted. -/
def own (c : Dev nD) : FVec F S256x512 .f32 :=
  k0_pay14 (k0_pay8 (k0_pay2 (xs m c)) (a0 m c) (b0 m c))
    (k0_pay9 (k0_pay2 (xs m c)) (k0_pay5 (a1 m c)) (k0_pay7 (b1 m c)) (constant S256x1024 .f32 0x00000000#32)) (ex m c) (exSum m c)

/-- Rows 0–127 and 128–255 of a block of 256. -/
def top (X : Vec F S256x512 .bf16) : Vec F S128x512 .bf16 := fun i => X fun
  | 0 => ⟨(i 0).val, by have h : (i 0).val < 128 := (i 0).isLt; show _ < 256; omega⟩
  | 1 => ⟨(i 1).val, (i 1).isLt⟩
def bot (X : Vec F S256x512 .bf16) : Vec F S128x512 .bf16 := fun i => X fun
  | 0 => ⟨128 + (i 0).val, by have h : (i 0).val < 128 := (i 0).isLt; show _ < 256; omega⟩
  | 1 => ⟨(i 1).val, (i 1).isLt⟩

/-- The device's experts on the two halves of the partner's rows, weighted, as sent to the partner. -/
def ch0 (c : Dev nD) : FVec F S1x128x512 .bf16 :=
  k0_pay15 (k0_pay4 (a0 m c)) (k0_pay5 (a1 m c)) (k0_pay6 (b0 m c)) (k0_pay7 (b1 m c)) (ws m (peer c)) (top (xn m (peer c)))
def ch1 (c : Dev nD) : FVec F S1x128x512 .bf16 :=
  k0_pay16 (k0_pay4 (a0 m c)) (k0_pay5 (a1 m c)) (k0_pay6 (b0 m c)) (k0_pay7 (b1 m c)) (ws m (peer c)) (bot (xn m (peer c)))

/-- A one-chunk array read without its leading axis. -/
def flat (X : Vec F S1x128x512 .bf16) : Vec F S128x512 .bf16 :=
  fun i => X (Shape.reshapeEquiv (Shape.Squeezes.numel_eq squeezes_S1x128x512_S128x512) i)

/-- The two halves of the result block, and the block. -/
def out0 (c : Dev nD) : FVec F S128x512 .f32 := k0_pay18 (k0_pay17 (own m c)) (ch0 m (peer c))
def out1 (c : Dev nD) : FVec F S128x512 .f32 := k0_pay1 (k0_pay19 (own m c)) (k0_pay20 (ch1 m (peer c)))
def outAt (c : Dev nD) : Vec F S256x512 .f32 := fun i =>
  if h : (i 0).val < 128 then out0 m c fun | 0 => ⟨(i 0).val, h⟩ | 1 => ⟨(i 1).val, (i 1).isLt⟩
  else out1 m c fun
    | 0 => ⟨(i 0).val - 128, by have h' : (i 0).val < 256 := (i 0).isLt; show _ < 128; omega⟩
    | 1 => ⟨(i 1).val, (i 1).isLt⟩

/-! ## The schedule -/

/-- Device `c` owns a share of a memref, which reads `X`. -/
abbrev ownAt (c : Dev nD) {sp : Space} {sh : Shape} {e : EltTy} (M : Memref sig .tc sp sh e) (q : PosShare TreeShare) (X : sh.Idx → Elt F e) :
    sProp (MF F) := owns (c : Thread nD τ) M q X

/-- Device `d`'s five landing buffers, at any contents. -/
def landing (d : Dev nD) : sProp (MF F) :=
  iprop((∃ X, ownAt d rpM fullShare X) ∗ (∃ X, ownAt d hiM fullShare X) ∗ (∃ X, ownAt d wrM fullShare X)
    ∗ (∃ X, ownAt d br0M fullShare X) ∗ (∃ X, ownAt d br1M fullShare X))

/-- What the one message of device `c`'s semaphore `k` hands to `c`: on the barrier the partner's landing buffers; on a send
    semaphore the buffer sent, back; on a receive semaphore the landing buffer, holding what the partner sent; on a copy
    semaphore the copy and its source. -/
def pay (c : Dev nD) : Fin 13 → sProp (MF F) := fun
  | 0 => landing (peer c)
  | 1 => ownAt c rM fullShare (rt m c)
  | 2 => ownAt c loM fullShare (xn m c)
  | 3 => ownAt c wsM fullShare (ws m c)
  | 4 => ownAt c cs0M fullShare (flat (ch0 m c))
  | 5 => ownAt c cs1M fullShare (flat (ch1 m c))
  | 6 => ownAt c rpM fullShare (rt m (peer c))
  | 7 => ownAt c hiM fullShare (xn m (peer c))
  | 8 => ownAt c wrM fullShare (ws m (peer c))
  | 9 => ownAt c br0M fullShare (flat (ch0 m (peer c)))
  | 10 => ownAt c br1M fullShare (flat (ch1 m (peer c)))
  | 11 => iprop(ownAt c u1M fullShare (w1 m c) ∗ ownAt c w1M fullShare (w1 m c))
  | 12 => iprop(ownAt c u2M fullShare (w2 m c) ∗ ownAt c w2M fullShare (w2 m c))

instance pay_storable (c : Dev nD) (k : Fin 13) : BI.Storable (upEmb : UEmb _ (MF F)) (pay m c k) := by
  fin_cases k <;> dsimp only [pay, landing] <;> infer_instance

/-- One round: each of the thirteen semaphores of each device expects one message. -/
def sched : Rounds.Schedule (GSem nD τ sig) Unit (MF F) where
  duties g r := if r = 0 ∧ g.1.2 = .tc ∧ (kidx g.2).isSome then {()} else ∅
  unitless _ := False
  amount g _ _ := (kidx g.2).elim 1 amt
  payload g _ _ := (kidx g.2).elim iprop(emp) (pay m g.1.1)
  amount_pos g _ _ _ := by
    cases h : kidx g.2 with
    | none => exact Nat.one_pos
    | some k => exact amt_pos k

instance sched_payload_storable (g : GSem nD τ sig) (r : ℕ) (d : Unit) :
    BI.Storable (upEmb : UEmb _ (MF F)) ((sched (F := F) m).payload g r d) := by
  show BI.Storable upEmb ((kidx g.2).elim iprop(emp) (pay m g.1.1))
  cases kidx g.2 with
  | none => show BI.Storable upEmb iprop(emp); infer_instance
  | some k => exact pay_storable m _ k

/-- Every semaphore has one duty in its first round, -/
theorem duties_at (c : Dev nD) (k : Fin 13) : (sched (F := F) m).duties (kcell c k) 0 = {()} := by
  dsimp only [sched]; rw [kidx_csem]; exact if_pos ⟨rfl, rfl, rfl⟩
/-- and none later. -/
theorem duties_later (g : GSem nD τ sig) : ∀ r, 1 ≤ r → (sched (F := F) m).duties g r = ∅ :=
  fun r hr => by dsimp only [sched]; rw [if_neg fun h => by omega]
/-- The duty of the first round. -/
theorem mem_duties (c : Dev nD) (k : Fin 13) : () ∈ (sched (F := F) m).duties (kcell c k) 0 := by
  rw [duties_at]; exact Finset.mem_singleton_self _
/-- How much it raises. -/
theorem amount_at (c : Dev nD) (k : Fin 13) : (sched (F := F) m).amount (kcell c k) 0 () = amt k := by
  dsimp only [sched]; rw [kidx_csem]; rfl
/-- What it hands over. -/
theorem payload_at (c : Dev nD) (k : Fin 13) : (sched (F := F) m).payload (kcell c k) 0 () = pay m c k := by
  dsimp only [sched]; rw [kidx_csem]; rfl
/-- What a wait takes. -/
theorem expect_at (c : Dev nD) (k : Fin 13) : (sched (F := F) m).expect (kcell c k) 0 = amt k := by
  unfold Schedule.expect Schedule.amountOf; rw [duties_at, Finset.sum_singleton, amount_at]
/-- What a wait hands over. -/
theorem rest_at (c : Dev nD) (k : Fin 13) :
    bigSep ((sched (F := F) m).duties (kcell c k) 0 \ ∅) (fun d => (sched (F := F) m).payload (kcell c k) 0 d) = pay m c k := by
  rw [Finset.sdiff_empty, duties_at, bigSep_singleton, payload_at]

/-! ## Debts and levels -/

/-- What device `c` still owes its partner before each of its six messages, latest message first. -/
def owe4 (c : Dev nD) : CellTallies nD τ sig Unit := tallyAt (kcell (peer c) 10) () (amt 10)
def owe3 (c : Dev nD) : CellTallies nD τ sig Unit := owe4 c + tallyAt (kcell (peer c) 9) () (amt 9)
def owe2 (c : Dev nD) : CellTallies nD τ sig Unit := owe3 c + tallyAt (kcell (peer c) 8) () (amt 8)
def owe0 (c : Dev nD) : CellTallies nD τ sig Unit := owe2 c + tallyAt (kcell (peer c) 6) () (amt 6)
def owe1 (c : Dev nD) : CellTallies nD τ sig Unit := owe0 c + tallyAt (kcell (peer c) 7) () (amt 7)
def oweAll (c : Dev nD) : CellTallies nD τ sig Unit := owe1 c + tallyAt (kcell (peer c) 0) () 1

def L (g : GSem nD τ sig) : Finset Unit := if g.1.2 = .tc then {()} else ∅

/-- The level of semaphore `k`: a device waits on a level only while it owes higher ones. -/
abbrev lvk : Fin 13 → ℕ := fun
  | 0 => 1 | 1 => 0 | 2 => 0 | 3 => 0 | 4 => 0 | 5 => 0 | 6 => 2 | 7 => 2 | 8 => 3 | 9 => 4 | 10 => 4 | 11 => 0 | 12 => 0
def lv (g : GSem nD τ sig) (_ : Unit) : ℕ := (kidx g.2).elim 0 lvk

theorem lv_at (c : Dev nD) (k : Fin 13) (u : Unit) : lv (kcell c k) u = lvk k := by unfold lv; rw [kidx_csem]; rfl
theorem L_of_ne (g : GSem nD τ sig) (h : g.1.2 ≠ .tc) : L g = ∅ := if_neg h
theorem L_tc (c : Dev nD) (s : SemLoc sig) : L ((c : Thread nD τ), s) = {()} := if_pos rfl

/-- The debt `O` is to receive semaphores and barriers of device `d` at levels above `n`. -/
def Above (d : Dev nD) (n : ℕ) (O : CellTallies nD τ sig Unit) : Prop :=
  ∀ g u, 0 < O g u → ∃ k, g = kcell d k ∧ n < lvk k

/-- One debt at a higher level. -/
theorem above_single (d : Dev nD) (n : ℕ) (k : Fin 13) (a : ℕ) (h : n < lvk k) : Above d n (tallyAt (kcell d k) () a) := fun g u hg => by
  rw [tallyAt_apply] at hg
  by_cases he : g = kcell d k ∧ u = ()
  · exact ⟨k, he.1, h⟩
  · rw [if_neg he] at hg; exact absurd hg (Nat.lt_irrefl 0)
/-- Two debts. -/
theorem above_add (d : Dev nD) (n : ℕ) {O O' : CellTallies nD τ sig Unit} (h : Above d n O) (h' : Above d n O') : Above d n (O + O') := fun g u hg => by
  rw [Pi.add_apply, Finsupp.add_apply] at hg
  rcases Nat.eq_zero_or_pos (O g u) with h0 | h0
  · exact h' g u (by omega)
  · exact h g u h0

theorem above_owe4 (c : Dev nD) (n : ℕ) (h : n < 4) : Above (peer c) n (owe4 c) := above_single _ _ _ _ h
theorem above_owe3 (c : Dev nD) (n : ℕ) (h : n < 4) : Above (peer c) n (owe3 c) := above_add _ _ (above_owe4 c n h) (above_single _ _ _ _ h)
theorem above_owe2 (c : Dev nD) (n : ℕ) (h : n < 3) : Above (peer c) n (owe2 c) :=
  above_add _ _ (above_owe3 c n (by omega)) (above_single _ _ _ _ h)
theorem above_owe0 (c : Dev nD) (n : ℕ) (h : n < 2) : Above (peer c) n (owe0 c) :=
  above_add _ _ (above_owe2 c n (by omega)) (above_single _ _ _ _ h)
theorem above_owe1 (c : Dev nD) (n : ℕ) (h : n < 2) : Above (peer c) n (owe1 c) :=
  above_add _ _ (above_owe0 c n h) (above_single _ _ _ _ h)
theorem above_oweAll (c : Dev nD) (n : ℕ) (h : n < 1) : Above (peer c) n (oweAll c) :=
  above_add _ _ (above_owe1 c n (by omega)) (above_single _ _ _ _ h)
/-- No debt. -/
theorem above_zero (d : Dev nD) (n : ℕ) : Above d n 0 := fun g u hg => absurd hg (Nat.lt_irrefl 0)

/-- A device may wait on a semaphore whose level is below everything it owes. -/
theorem mayWait_of_above (c d : Dev nD) (s : SemLoc sig) (n : ℕ) (hn : lv ((c : Thread nD τ), s) () ≤ n) {O : CellTallies nD τ sig Unit} (h : Above d n O) :
    (levAts L lv : sProp (MF F)) ⊢ MayWait (c : Thread nD τ) s () O :=
  MayOwe.of_cut (L := L) (lev := lv) n (fun p hp => by rw [Finset.mem_singleton.mp hp, L_tc]; exact Finset.mem_singleton_self _)
    (fun g u hg => by obtain ⟨k, rfl, -⟩ := h g u hg; rw [L_tc]; exact Finset.mem_singleton_self _)
    (fun p hp => by rw [Finset.mem_singleton.mp hp]; exact hn)
    (fun g u hg => by obtain ⟨k, rfl, hk⟩ := h g u hg; rw [lv_at]; exact hk)

end Cert.KernelIdeal.Exchange

end
-- ==== Proof.Steps.lean ====
/-
One rule per kind of step the kernel takes, at its thirteen semaphores: a load, a store, the handshake's signal, a message to
the partner, a local copy, a wait. Each rule says what a device must hold for the step and what it holds after it.
-/
module

public import proofs.«01_k».proof.Proof.Mesh

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

abbrev 𝒱₀ : Variants := Variants.none

/-- What all devices know throughout: every semaphore's invariant, under the names `K`; that each is in its round 0; the levels. -/
def env (K : Dev nD × Fin 13 → ℕ) : sProp (MF F) :=
  iprop((bigSep Finset.univ fun ck : Dev nD × Fin 13 => cellInv ER (sched m) (K ck) (kcell ck.1 ck.2))
    ∗ (bigSep Finset.univ fun ck : Dev nD × Fin 13 => reached ER (kcell ck.1 ck.2) 0)
    ∗ levAts L lv)

instance env_persistent (K : Dev nD × Fin 13 → ℕ) : BI.Persistent (env m K) := by unfold env; infer_instance

variable (K : Dev nD × Fin 13 → ℕ)

/-- The context holds every cell's invariant, -/
theorem env_inv (c : Dev nD) (k : Fin 13) : env m K ⊢ cellInv ER (sched m) (K (c, k)) (kcell c k) := by
  unfold env; iintro ⟨HI, -, -⟩
  iapply (show (bigSep Finset.univ fun ck : Dev nD × Fin 13 => (cellInv ER (sched m) (K ck) (kcell ck.1 ck.2) : sProp (MF F)))
    ⊢ cellInv ER (sched m) (K (c, k)) (kcell c k) from bigSep_elim (Finset.mem_univ (c, k)))
  iexact HI
/-- that every cell has reached its first round, -/
theorem env_reached (c : Dev nD) (k : Fin 13) : env m K ⊢ reached ER (kcell c k) 0 := by
  unfold env; iintro ⟨-, HR, -⟩
  iapply (show (bigSep Finset.univ fun ck : Dev nD × Fin 13 => (reached ER (kcell ck.1 ck.2) 0 : sProp (MF F)))
    ⊢ reached ER (kcell c k) 0 from bigSep_elim (Finset.mem_univ (c, k)))
  iexact HR
/-- and the levels. -/
theorem env_lev : env m K ⊢ levAts L lv := by
  unfold env; iintro ⟨-, -, HL⟩; iexact HL

/-- Device `c` owes `O`, whatever it has waited on so far. -/
def debt (c : Dev nD) (O : CellTallies nD τ sig Unit) : sProp (MF F) := iprop(∃ W, owes (c : Thread nD τ) O W)

section Rules

variable (c : Dev nD) {α : Type} {Q : α → sProp (MF F)}

/-- A load from a buffer known to satisfy `P`, which gives `X` of any such buffer. -/
theorem wp_ld {cs : CoreSpace} {s : Shape} {e : EltTy} {M : Memref sig .tc cs s e} {r : LoadRect s} {hl : M.view.LoadsAt r}
    {k : (r.shape.Idx → Elt F e) → Prog (TpuEff nD τ sig (Elt F) Λ₀ .tc) α}
    {S : Finset (Idx (M.view.loc (c : Thread nD τ)))} {q : PosShare TreeShare} (P : Buf (Elt F) (M.view.loc (c : Thread nD τ)) → Prop)
    (X : r.shape.Idx → Elt F e) (hS : M.view.setOn r.set ⊆ S) (hX : ∀ f, P f → M.view.readAt (Elt F) r f = X) :
    (iprop(∃ f, ⌜P f⌝ ∗ (M.view.loc (c : Thread nD τ) ↦[S]{q} f)) : sProp (MF F))
      ⊢ iprop(((∃ f, ⌜P f⌝ ∗ (M.view.loc (c : Thread nD τ) ↦[S]{q} f)) -∗ wp frame (wpE (defs₀ (F := F)) 𝒱₀ (c : Thread nD τ) none) Set.univ (k X) Q)
        -∗ wp frame (wpE (defs₀ (F := F)) 𝒱₀ (c : Thread nD τ) none) Set.univ (.op (.load M r hl) k) Q) := by
  iintro ⟨%f, %hf, H⟩ Hk
  iapply (wp_load 𝒱₀ (c : Thread nD τ) none Set.univ (m := M) hS) $$ H; iintro H
  rw [hX f hf]
  iapply Hk
  iexists f; isplitr; · ipureintro; exact hf
  iexact H

/-- A store into a buffer known to satisfy `P`, after which it satisfies `P'`. -/
theorem wp_st {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α}
    {S : Finset (Idx ((M.access r).loc (c : Thread nD τ)))} (P P' : Buf (Elt F) ((M.access r).loc (c : Thread nD τ)) → Prop)
    (hS : (M.access r).set ⊆ S) (hP : ∀ f, P f → P' ((M.access r).write (Elt F) f w Finset.univ)) :
    (iprop(∃ f, ⌜P f⌝ ∗ ((M.access r).loc (c : Thread nD τ) ↦[S]{fullShare} f)) : sProp (MF F))
      ⊢ iprop(((∃ f, ⌜P' f⌝ ∗ ((M.access r).loc (c : Thread nD τ) ↦[S]{fullShare} f)) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro ⟨%f, %hf, H⟩ Hk
  iapply (wp_store 𝒱₀ (c : Thread nD τ) none Set.univ (m := M) (r := r) (Mk := Finset.univ) hS) $$ H; iintro H
  iapply Hk
  iexists _; isplitr; · ipureintro; exact hP f hf
  iexact H

/-- The handshake's signal to the partner: `c`'s landing buffers go with it. -/
theorem wp_hello (n : Dev nD) (hn : n = peer c) {a : ℕ} (ha : a = 1) {s : Sem sig} (hs : s = barS) {k : PUnit → Prog (TpuEff nD τ sig (Elt F) Λ₀ .tc) α} :
    iprop(env m K ∗ landing c ∗ debt c (oweAll c) ∗ dutyTok ER (kcell (peer c) 0) 0 ())
      ⊢ iprop((debt c (owe1 c) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s a) k) Q) := by
  subst hn ha hs
  unfold debt
  iintro ⟨#He, Hl, ⟨%W, Ho⟩, Ht⟩ Hk
  iapply (Rounds.wp_signal 𝒱₀ ER (sched m) (c : Thread nD τ) none (dst := (peer c : Thread nD τ)) (κ := K (peer c, 0)) (r := 0)
      (d := ()) (mem_duties m (peer c) 0) (amount_at m (peer c) 0) () (owe1 c) rfl) $$ [Hl Ho Ht]
  · isplitr; · iapply (env_inv m K (peer c) 0); iexact He
    isplitl [Ho]; · iexact Ho
    isplitl [Ht]; · iexact Ht
    isplitl [Hl]
    · rw [show (sched (F := F) m).payload ((peer c : Thread nD τ), .reg barS) 0 () = landing c from
        (payload_at m (peer c) 0).trans (by show landing (peer (peer c)) = _; rw [peer_peer])]
      iexact Hl
    iapply (env_reached m K (peer c) 0); iexact He
  iintro Ho
  iapply Hk
  iexists W; iexact Ho

/-- A message to the partner, filling its landing buffer `dst` with what `src` holds; it credits `c`'s semaphore `kS` and
    the partner's `kR`. -/
theorem wp_msg (n : Dev nD) (hn : n = peer c) (kS kR : Fin 13) {sp sp' : Space} {s : Shape} {e : EltTy}
    {src : Memref sig .tc sp s e} {dst : Memref sig .tc sp' s e} {sS sR : SemLoc sig}
    {hsc : (show Memref sig (Dev.tc n : Thread nD τ).2.kind sp' s e from dst).view.ref.isScScratch = false}
    {hsrc : src.view.WordExact} {hdst : dst.view.WordExact}
    {hsem : DmaTarget.Typed sp sR (.remote (Dev.tc n : Thread nD τ) dst sS hsc)}
    {k : PUnit → Prog (TpuEff nD τ sig (Elt F) Λ₀ .tc) α} (X : s.Idx → Elt F e)
    (hS : sS = csem kS) (hR : sR = csem kR) (hN : dst.view.amount sR = amt kR) (hN' : amt kS = amt kR)
    {O₀ : CellTallies nD τ sig Unit} (O : CellTallies nD τ sig Unit) (hO : O₀ = O + tallyAt (kcell (peer c) kR) () (amt kR))
    (hp : pay m c kS = ownAt c src fullShare X) (hp' : pay m (peer c) kR = ownAt (peer c) dst fullShare X) :
    iprop(env m K ∗ ownAt c src fullShare X ∗ (∃ Z, ownAt (peer c) dst fullShare Z) ∗ debt c O₀
        ∗ dutyTok ER (kcell c kS) 0 () ∗ dutyTok ER (kcell (peer c) kR) 0 ())
      ⊢ iprop(((cred (tallyAt (kcell c kS) () (amt kS)) ∗ debt c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sR hsrc hdst hsem) k) Q) := by
  subst hn hS hR
  unfold debt
  iintro ⟨#He, Hs, ⟨%Z, Hd⟩, ⟨%W, Ho⟩, Ht, Ht'⟩ Hk
  unfold ownAt owns
  icases Hs with ⟨%fs, %hfs, Hs⟩
  icases Hd with ⟨%fd, %hfd, Hd⟩
  rw [hN']
  iapply (Rounds.wp_send_pointsTo 𝒱₀ ER (sched m) (c : Thread nD τ) none (κ₁ := K (c, kS)) (κ₂ := K (peer c, kR))
    (r₁ := 0) (r₂ := 0) (d₁ := ()) (d₂ := ()) (fd := fd) (fs := fs) (mem_duties m c kS) (mem_duties m (peer c) kR)
    () () (amt kR) hN ((amount_at m c kS).trans hN') (amount_at m (peer c) kR) O hO (W := W)
    (by rw [payload_at, hp, ← hfs]; exact owns_intro (c : Thread nD τ) src fullShare fs)
    (by
      rw [payload_at, hp']
      refine (owns_intro (peer c : Thread nD τ) dst fullShare _).trans (Entails.of_eq ?_)
      rw [View.read_write_univ, hfs])) $$ [Hs Hd Ho Ht Ht']
  · isplitr; · iapply (env_inv m K c kS); iexact He
    isplitr; · iapply (env_inv m K (peer c) kR); iexact He
    isplitl [Hs]; · iexact Hs
    isplitl [Hd]; · iexact Hd
    isplitl [Ho]; · iexact Ho
    isplitl [Ht]; · iexact Ht
    isplitr; · iapply (env_reached m K c kS); iexact He
    isplitl [Ht']; · iexact Ht'
    iapply (env_reached m K (peer c) kR); iexact He
  iintro ⟨Hc, Ho⟩
  iapply Hk
  isplitl [Hc]; · iexact Hc
  iexists W; iexact Ho

/-- A local copy of what `src` holds into `dst`, crediting `c`'s semaphore `k`. -/
theorem wp_cp (k : Fin 13) {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {kk : PUnit → Prog (TpuEff nD τ sig (Elt F) Λ₀ .tc) α} (X : s.Idx → Elt F e)
    (hs : sm = csem k) (hN : dst.view.amount sm = amt k)
    (hp : pay m c k = iprop(ownAt c dst fullShare X ∗ ownAt c src fullShare X)) :
    iprop(env m K ∗ ownAt c src fullShare X ∗ (∃ Z, ownAt c dst fullShare Z) ∗ dutyTok ER (kcell c k) 0 ())
      ⊢ iprop((cred (tallyAt (kcell c k) () (amt k)) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) sm hsrc hdst hsem) kk) Q) := by
  subst hs
  iintro ⟨#He, Hs, ⟨%Z, Hd⟩, Ht⟩ Hk
  unfold ownAt owns
  icases Hs with ⟨%fs, %hfs, Hs⟩
  icases Hd with ⟨%fd, %hfd, Hd⟩
  iapply (Rounds.wp_copy_pointsTo 𝒱₀ ER (sched m) (c : Thread nD τ) none (κ := K (c, k)) (r := 0) (d := ()) (q := fullShare) (fs := fs) (fd := fd)
    (mem_duties m c k) () (amt k) hN (amount_at m c k)
    (by
      rw [payload_at, hp]
      refine BIClass.sep_mono ((owns_intro (c : Thread nD τ) dst fullShare _).trans (Entails.of_eq ?_)) ?_
      · rw [View.read_write_univ, hfs]
      · rw [← hfs]; exact owns_intro (c : Thread nD τ) src fullShare fs)) $$ [Hs Hd Ht]
  · isplitr; · iapply (env_inv m K c k); iexact He
    isplitl [Hs]; · iexact Hs
    isplitl [Hd]; · iexact Hd
    isplitl [Ht]; · iexact Ht
    iapply (env_reached m K c k); iexact He
  iintro Hc
  iapply Hk; iexact Hc

/-- A wait for the one message of `c`'s semaphore `k`: what the message carries comes with it. -/
theorem wp_await (k : Fin 13) {w : TpuEff nD τ sig (Elt F) Λ₀ .tc PUnit} {sm : SemLoc sig} {a : ℕ}
    (hw : ∀ Kt : PUnit → sProp (MF F), wpE (defs₀ (F := F)) 𝒱₀ (c : Thread nD τ) none Set.univ w Kt = waitSpec (c : Thread nD τ) Set.univ sm a Kt)
    {kk : PUnit → Prog (TpuEff nD τ sig (Elt F) Λ₀ .tc) α} (hs : sm = csem k) (ha : a = amt k)
    {O : CellTallies nD τ sig Unit} {d : Dev nD} {n : ℕ} (hn : lvk k ≤ n) (hO : Above d n O) (P : sProp (MF F)) (hP : pay m c k = P) :
    iprop(env m K ∗ cred (tallyAt (kcell c k) () (amt k)) ∗ debt c O ∗ atPos ER (kcell c k) 0 ∅ 0)
      ⊢ iprop(((debt c O ∗ atPos ER (kcell c k) 1 ∅ 0 ∗ P) -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  subst hs ha hP
  unfold debt
  iintro ⟨#He, Hc, ⟨%W, Ho⟩, Ha⟩ Hk
  iapply (Rounds.wp_wait_rest_token 𝒱₀ ER (sched m) (c : Thread nD τ) none (κ := K (c, k)) hw (Set.mem_univ _) () (O := O) (W := W) (R := 0) (m := 0) (T := ∅)
      (by rw [Nat.zero_add, expect_at])) $$ [Hc Ho Ha]
  · isplitr; · iapply (env_inv m K c k); iexact He
    isplitl [Hc]; · iexact Hc
    isplitl [Ho]; · iexact Ho
    isplitr
    · iapply (mayWait_of_above (F := F) c d (csem k) n (by rw [lv_at]; exact hn) hO); iapply (env_lev m K); iexact He
    iexact Ha
  iintro ⟨Ho, Ha, -, Hp⟩
  ihave Hp := (Entails.of_eq (rest_at m c k)) $$ Hp
  iapply Hk
  isplitl [Ho]; · iexists _; iexact Ho
  isplitl [Ha]; · iexact Ha
  iexact Hp

/-- After its one message is consumed a semaphore is closed, and stands at zero. -/
theorem close (k : Fin 13) : iprop(env m K ∗ atPos ER (kcell c k) 1 ∅ 0) ⊢ |={Set.univ}=> (semVal (kcell c k) 0 : sProp (MF F)) := by
  iintro ⟨#He, Ha⟩
  iapply (Rounds.cell_close ER (sched m) (Set.mem_univ (K (c, k))) (fun h => h) (R := 0 + 1) (duties_later m (kcell c k)))
  isplitr; · iapply (env_inv m K c k); iexact He
  iexact Ha

end Rules

end Cert.KernelIdeal.Exchange

end
-- ==== Proof.Memory.lean ====
/-
The kernel's buffers cut into the pieces its messages move: which elements each piece has, that the pieces of a buffer
are disjoint and make up the buffer, and what a load or a store through the buffer does to a piece.
-/
module

public import proofs.«01_k».proof.Proof.Steps

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem zero2 : (![0, 0] : Fin 2 → ℕ) = fun _ => 0 := funext fun a => by fin_cases a <;> rfl
theorem zero3 : (![0, 0, 0] : Fin 3 → ℕ) = fun _ => 0 := funext fun a => by fin_cases a <;> rfl

/-! ## Elements of the pieces -/

theorem lo_set : loM.view.set = rLo.set := View.set_slice_whole cc0_scratch2 rLo
theorem hi_set : hiM.view.set = rHi.set := View.set_slice_whole cc0_scratch2 rHi
theorem cs0_set : cs0M.view.set = rC0.set := (View.set_reshape _ _).trans (View.set_slice_whole cc0_scratch6 rC0)
theorem cs1_set : cs1M.view.set = rC1.set := (View.set_reshape _ _).trans (View.set_slice_whole cc0_scratch6 rC1)
theorem br0_set : br0M.view.set = rC0.set := (View.set_reshape _ _).trans (View.set_slice_whole cc0_scratch7 rC0)
theorem br1_set : br1M.view.set = rC1.set := (View.set_reshape _ _).trans (View.set_slice_whole cc0_scratch7 rC1)

/-- The two halves of the token buffer do not meet, -/
theorem halves_disjoint : Disjoint rLo.set rHi.set := by
  refine Finset.disjoint_left.mpr fun i h h' => ?_
  have h1 := (Rect.mem_set_unit.mp h 0).2
  have h2 := (Rect.mem_set_unit.mp h' 0).1
  have h1 : (i 0).val < 0 + 256 := h1
  have h2 : 256 ≤ (i 0).val := h2
  omega
/-- and make it up. -/
theorem halves_union : rLo.set ∪ rHi.set = Finset.univ := by
  refine Finset.eq_univ_iff_forall.mpr fun i => Finset.mem_union.mpr ?_
  have h0 : (i 0).val < 512 := (i 0).isLt
  have h1 : (i 1).val < 512 := (i 1).isLt
  rcases Nat.lt_or_ge (i 0).val 256 with h | h
  · exact Or.inl (Rect.mem_set_unit.mpr fun a => by
      fin_cases a
      · show 0 ≤ (i 0).val ∧ (i 0).val < 0 + 256; omega
      · show 0 ≤ (i 1).val ∧ (i 1).val < 0 + 512; omega)
  · exact Or.inr (Rect.mem_set_unit.mpr fun a => by
      fin_cases a
      · show 256 ≤ (i 0).val ∧ (i 0).val < 256 + 256; omega
      · show 0 ≤ (i 1).val ∧ (i 1).val < 0 + 512; omega)
/-- The two chunks of a result buffer do not meet, -/
theorem chunks_disjoint : Disjoint rC0.set rC1.set := by
  refine Finset.disjoint_left.mpr fun i h h' => ?_
  have h1 : (i 0).val < 0 + 1 := (Rect.mem_set_unit.mp h 0).2
  have h2 : 1 ≤ (i 0).val := (Rect.mem_set_unit.mp h' 0).1
  omega
/-- and make it up. -/
theorem chunks_union : rC0.set ∪ rC1.set = Finset.univ := by
  refine Finset.eq_univ_iff_forall.mpr fun i => Finset.mem_union.mpr ?_
  have h0 : (i 0).val < 2 := (i 0).isLt
  have h1 : (i 1).val < 128 := (i 1).isLt
  have h2 : (i 2).val < 512 := (i 2).isLt
  rcases Nat.lt_or_ge (i 0).val 1 with h | h
  · exact Or.inl (Rect.mem_set_unit.mpr fun a => by
      fin_cases a
      · show 0 ≤ (i 0).val ∧ (i 0).val < 0 + 1; omega
      · show 0 ≤ (i 1).val ∧ (i 1).val < 0 + 128; omega
      · show 0 ≤ (i 2).val ∧ (i 2).val < 0 + 512; omega)
  · exact Or.inr (Rect.mem_set_unit.mpr fun a => by
      fin_cases a
      · show 1 ≤ (i 0).val ∧ (i 0).val < 1 + 1; omega
      · show 0 ≤ (i 1).val ∧ (i 1).val < 0 + 128; omega
      · show 0 ≤ (i 2).val ∧ (i 2).val < 0 + 512; omega)

/-! ## Cutting a buffer in two, and putting it together -/

section Cut

variable (c : Dev nD)

theorem cut_xf : (iprop(∃ f : Buf (Elt F) ((c : Thread nD τ).loc cc0_scratch2), ((c : Thread nD τ).loc cc0_scratch2) ↦{fullShare} f) : sProp (MF F))
    ⊢ iprop((∃ X, ownAt c loM fullShare X) ∗ (∃ X, ownAt c hiM fullShare X)) := by
  iintro ⟨%f, H⟩
  rw [← halves_union]
  ihave H' := (pointsTo_union halves_disjoint).1 $$ H
  icases H' with ⟨H1, H2⟩
  isplitl [H1]
  · iexists (loM.view.read (Elt F) f); iapply (owns_intro (c : Thread nD τ) loM fullShare f); rw [lo_set]; iexact H1
  · iexists (hiM.view.read (Elt F) f); iapply (owns_intro (c : Thread nD τ) hiM fullShare f); rw [hi_set]; iexact H2

theorem cut_cs : (iprop(∃ f : Buf (Elt F) ((c : Thread nD τ).loc cc0_scratch6), ((c : Thread nD τ).loc cc0_scratch6) ↦{fullShare} f) : sProp (MF F))
    ⊢ iprop((∃ X, ownAt c cs0M fullShare X) ∗ (∃ X, ownAt c cs1M fullShare X)) := by
  iintro ⟨%f, H⟩
  rw [← chunks_union]
  ihave H' := (pointsTo_union chunks_disjoint).1 $$ H
  icases H' with ⟨H1, H2⟩
  isplitl [H1]
  · iexists (cs0M.view.read (Elt F) f); iapply (owns_intro (c : Thread nD τ) cs0M fullShare f); rw [cs0_set]; iexact H1
  · iexists (cs1M.view.read (Elt F) f); iapply (owns_intro (c : Thread nD τ) cs1M fullShare f); rw [cs1_set]; iexact H2

theorem cut_br : (iprop(∃ f : Buf (Elt F) ((c : Thread nD τ).loc cc0_scratch7), ((c : Thread nD τ).loc cc0_scratch7) ↦{fullShare} f) : sProp (MF F))
    ⊢ iprop((∃ X, ownAt c br0M fullShare X) ∗ (∃ X, ownAt c br1M fullShare X)) := by
  iintro ⟨%f, H⟩
  rw [← chunks_union]
  ihave H' := (pointsTo_union chunks_disjoint).1 $$ H
  icases H' with ⟨H1, H2⟩
  isplitl [H1]
  · iexists (br0M.view.read (Elt F) f); iapply (owns_intro (c : Thread nD τ) br0M fullShare f); rw [br0_set]; iexact H1
  · iexists (br1M.view.read (Elt F) f); iapply (owns_intro (c : Thread nD τ) br1M fullShare f); rw [br1_set]; iexact H2

theorem join_xf (X Y : Vec F S256x512 .bf16) : iprop(ownAt c loM fullShare X ∗ ownAt c hiM fullShare Y)
    ⊢ (iprop(∃ f : Buf (Elt F) ((c : Thread nD τ).loc cc0_scratch2), ((c : Thread nD τ).loc cc0_scratch2) ↦{fullShare} f) : sProp (MF F)) := by
  unfold ownAt owns
  iintro ⟨⟨%f, -, H1⟩, ⟨%g, -, H2⟩⟩
  rw [lo_set, hi_set]
  ihave H := (pointsTo_join (ℓ := (c : Thread nD τ).loc cc0_scratch2) (f := f) (g := g) halves_disjoint) $$ [H1 H2]
  · isplitl [H1] <;> iassumption
  rw [halves_union]
  iexists _; iexact H

theorem join_cs (X Y : Vec F S128x512 .bf16) : iprop(ownAt c cs0M fullShare X ∗ ownAt c cs1M fullShare Y)
    ⊢ (iprop(∃ f : Buf (Elt F) ((c : Thread nD τ).loc cc0_scratch6), ((c : Thread nD τ).loc cc0_scratch6) ↦{fullShare} f) : sProp (MF F)) := by
  unfold ownAt owns
  iintro ⟨⟨%f, -, H1⟩, ⟨%g, -, H2⟩⟩
  rw [cs0_set, cs1_set]
  ihave H := (pointsTo_join (ℓ := (c : Thread nD τ).loc cc0_scratch6) (f := f) (g := g) chunks_disjoint) $$ [H1 H2]
  · isplitl [H1] <;> iassumption
  rw [chunks_union]
  iexists _; iexact H

theorem join_br (X Y : Vec F S128x512 .bf16) : iprop(ownAt c br0M fullShare X ∗ ownAt c br1M fullShare Y)
    ⊢ (iprop(∃ f : Buf (Elt F) ((c : Thread nD τ).loc cc0_scratch7), ((c : Thread nD τ).loc cc0_scratch7) ↦{fullShare} f) : sProp (MF F)) := by
  unfold ownAt owns
  iintro ⟨⟨%f, -, H1⟩, ⟨%g, -, H2⟩⟩
  rw [br0_set, br1_set]
  ihave H := (pointsTo_join (ℓ := (c : Thread nD τ).loc cc0_scratch7) (f := f) (g := g) chunks_disjoint) $$ [H1 H2]
  · isplitl [H1] <;> iassumption
  rw [chunks_union]
  iexists _; iexact H

end Cut

/-! ## Loads and stores through a piece -/

/-- The rectangles the two chunks of the partner's rows are read through. -/
abbrev rT : Rect S512x512 := Rect.unit (s := S512x512) ![256, 0] S128x512.size inb_S512x512_S128x512_256_0
abbrev rB : Rect S512x512 := Rect.unit (s := S512x512) ![384, 0] S128x512.size inb_S512x512_S128x512_384_0

/-- The upper rows of the received half lie in it, -/
theorem rT_subset : xfM.view.setOn rT.toLoadRect.set ⊆ hiM.view.set := by
  rw [hi_set]
  intro i hi
  obtain ⟨j, hj, rfl⟩ := Finset.mem_map.mp hi
  show j ∈ rHi.set
  have h := Rect.mem_set_unit.mp hj
  have h0 : 256 ≤ (j 0).val ∧ (j 0).val < 256 + 128 := h 0
  have h1 : 0 ≤ (j 1).val ∧ (j 1).val < 0 + 512 := h 1
  exact Rect.mem_set_unit.mpr fun a => by
    fin_cases a
    · show 256 ≤ (j 0).val ∧ (j 0).val < 256 + 256; omega
    · exact h1
/-- and so do the lower rows. -/
theorem rB_subset : xfM.view.setOn rB.toLoadRect.set ⊆ hiM.view.set := by
  rw [hi_set]
  intro i hi
  obtain ⟨j, hj, rfl⟩ := Finset.mem_map.mp hi
  show j ∈ rHi.set
  have h := Rect.mem_set_unit.mp hj
  have h0 : 384 ≤ (j 0).val ∧ (j 0).val < 384 + 128 := h 0
  have h1 : 0 ≤ (j 1).val ∧ (j 1).val < 0 + 512 := h 1
  exact Rect.mem_set_unit.mpr fun a => by
    fin_cases a
    · show 256 ≤ (j 0).val ∧ (j 0).val < 256 + 256; omega
    · exact h1

/-- Reading the first 128 of the partner's rows. -/
theorem read_top (f : (cc0_scratch2 : Ref sig .tc).ty.Contents (Elt F)) (X : Vec F S256x512 .bf16) (hf : hiM.view.read (Elt F) f = X) :
    xfM.view.readAt (Elt F) rT.toLoadRect f = top X := by
  subst hf
  funext i
  refine congrArg f (funext fun a => Fin.ext ?_)
  fin_cases a
  · show 256 + 1 * (i 0).val = 256 + 1 * (i 0).val; rfl
  · show 0 + 1 * (i 1).val = 0 + 1 * (i 1).val; rfl
/-- Reading the last 128 of the partner's rows. -/
theorem read_bot (f : (cc0_scratch2 : Ref sig .tc).ty.Contents (Elt F)) (X : Vec F S256x512 .bf16) (hf : hiM.view.read (Elt F) f = X) :
    xfM.view.readAt (Elt F) rB.toLoadRect f = bot X := by
  subst hf
  funext i
  refine congrArg f (funext fun a => Fin.ext ?_)
  fin_cases a
  · show 384 + 1 * (i 0).val = 256 + 1 * (128 + (i 0).val); omega
  · show 0 + 1 * (i 1).val = 0 + 1 * (i 1).val; rfl

/-- Chunks are read and written through their buffer with the leading axis kept. -/
theorem read_br0 (f : (cc0_scratch7 : Ref sig .tc).ty.Contents (Elt F)) (Y : Vec F S1x128x512 .bf16) (hf : br0M.view.read (Elt F) f = flat Y) :
    brM.view.readAt (Elt F) rC0.toLoadRect f = Y := by
  funext i
  have h := congrFun hf ((Shape.reshapeEquiv (Shape.Squeezes.numel_eq squeezes_S1x128x512_S128x512)).symm i)
  unfold flat at h
  rw [Equiv.apply_symm_apply] at h
  rw [← h]
  show f (rC0.emb i) = f (rC0.emb (Shape.reshapeEquiv _ ((Shape.reshapeEquiv (Shape.Squeezes.numel_eq squeezes_S1x128x512_S128x512)).symm i)))
  rw [Equiv.apply_symm_apply]
theorem read_br1 (f : (cc0_scratch7 : Ref sig .tc).ty.Contents (Elt F)) (Y : Vec F S1x128x512 .bf16) (hf : br1M.view.read (Elt F) f = flat Y) :
    brM.view.readAt (Elt F) rC1.toLoadRect f = Y := by
  funext i
  have h := congrFun hf ((Shape.reshapeEquiv (Shape.Squeezes.numel_eq squeezes_S1x128x512_S128x512)).symm i)
  unfold flat at h
  rw [Equiv.apply_symm_apply] at h
  rw [← h]
  show f (rC1.emb i) = f (rC1.emb (Shape.reshapeEquiv _ ((Shape.reshapeEquiv (Shape.Squeezes.numel_eq squeezes_S1x128x512_S128x512)).symm i)))
  rw [Equiv.apply_symm_apply]
theorem write_cs0 (f : (cc0_scratch6 : Ref sig .tc).ty.Contents (Elt F)) (Y : Vec F S1x128x512 .bf16) :
    cs0M.view.read (Elt F) ((csM.access rC0).write (Elt F) f Y Finset.univ) = flat Y := by
  funext i
  exact congrFun (View.read_write_univ (v := csM.access rC0) f Y) (Shape.reshapeEquiv (Shape.Squeezes.numel_eq squeezes_S1x128x512_S128x512) i)
theorem write_cs1 (f : (cc0_scratch6 : Ref sig .tc).ty.Contents (Elt F)) (Y : Vec F S1x128x512 .bf16) :
    cs1M.view.read (Elt F) ((csM.access rC1).write (Elt F) f Y Finset.univ) = flat Y := by
  funext i
  exact congrFun (View.read_write_univ (v := csM.access rC1) f Y) (Shape.reshapeEquiv (Shape.Squeezes.numel_eq squeezes_S1x128x512_S128x512) i)

theorem cs0_access : (csM.access rC0).set = cs0M.view.set := (View.set_slice_whole cc0_scratch6 rC0).trans cs0_set.symm
theorem cs1_access : (csM.access rC1).set = cs1M.view.set := (View.set_slice_whole cc0_scratch6 rC1).trans cs1_set.symm
theorem setOn_toLoad {sp : Space} {s : Shape} {e : EltTy} (M : Memref sig .tc sp s e) (r : Rect s) :
    M.view.setOn r.toLoadRect.set = (M.access r).set := (View.set_slice (v := M.view) r).symm

/-! ## The result block, written in two halves -/

abbrev rO0 : Rect S256x512 := Rect.unit (s := S256x512) ![0, 0] S128x512.size inb_S256x512_S128x512_0_0
abbrev rO1 : Rect S256x512 := Rect.unit (s := S256x512) ![128, 0] S128x512.size inb_S256x512_S128x512_128_0

variable (m : (ℓ : Loc nD τ sig) → Buf (Elt F) ℓ)

/-- Writing the two halves leaves the result block, whatever was there. -/
theorem write_out (c : Dev nD) (f : Vec F S256x512 .f32) :
    (oM.access rO1).write (Elt F) ((oM.access rO0).write (Elt F) f (out0 m c) Finset.univ) (out1 m c) Finset.univ = outAt m c := by
  funext i
  unfold outAt
  by_cases h : (i 0).val < 128
  · rw [dif_pos h, View.write_of_not_mem]
    · have hi : i = (oM.access rO0).emb (fun | 0 => ⟨(i 0).val, h⟩ | 1 => ⟨(i 1).val, (i 1).isLt⟩) := funext fun a => Fin.ext (by
        fin_cases a
        · show (i 0).val = 0 + 1 * (i 0).val; omega
        · show (i 1).val = 0 + 1 * (i 1).val; omega)
      conv_lhs => rw [hi]
      rw [View.write_emb_of_mem _ _ (Finset.mem_univ _)]; rfl
    · intro hm
      obtain ⟨x, -, hx⟩ := Finset.mem_map.mp hm
      have h0 := congrArg (fun j : S256x512.Idx => (j 0).val) hx
      have h0 : 128 + 1 * (x 0).val = (i 0).val := h0
      omega
  · rw [dif_neg h]
    have hb : (i 0).val < 256 := (i 0).isLt
    have hi : i = (oM.access rO1).emb (fun | 0 => ⟨(i 0).val - 128, by show _ < 128; omega⟩ | 1 => ⟨(i 1).val, (i 1).isLt⟩) := funext fun a => Fin.ext (by
        fin_cases a
        · show (i 0).val = 128 + 1 * ((i 0).val - 128); omega
        · show (i 1).val = 0 + 1 * (i 1).val; omega)
    conv_lhs => rw [hi]
    rw [View.write_emb_of_mem _ _ (Finset.mem_univ _)]; rfl

end Cert.KernelIdeal.Exchange

end
-- ==== Proof.Access.lean ====
/-
The kernel's loads and stores, each as a rule about the piece of a buffer it touches.
-/
module

public import proofs.«01_k».proof.Proof.Memory

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) {α : Type} {Q : α → sProp (MF F)}

/-- A load whose value is not used. -/
theorem ld_any {cs : CoreSpace} {s : Shape} {e : EltTy} {M : Memref sig .tc cs s e} {r : LoadRect s} {hl : M.view.LoadsAt r}
    {k : (r.shape.Idx → Elt F e) → Prog (TpuEff nD τ sig (Elt F) Λ₀ .tc) α}
    {S : Finset (Idx (M.view.loc (c : Thread nD τ)))} {q : PosShare TreeShare} (P : Buf (Elt F) (M.view.loc (c : Thread nD τ)) → Prop)
    (hS : M.view.setOn r.set ⊆ S) :
    (iprop(∃ f, ⌜P f⌝ ∗ (M.view.loc (c : Thread nD τ) ↦[S]{q} f)) : sProp (MF F))
      ⊢ iprop((∀ x, (∃ f, ⌜P f⌝ ∗ (M.view.loc (c : Thread nD τ) ↦[S]{q} f)) -∗ wp frame (wpE (defs₀ (F := F)) 𝒱₀ (c : Thread nD τ) none) Set.univ (k x) Q)
        -∗ wp frame (wpE (defs₀ (F := F)) 𝒱₀ (c : Thread nD τ) none) Set.univ (.op (.load M r hl) k) Q) := by
  iintro ⟨%f, %hf, H⟩ Hk
  iapply (wp_load 𝒱₀ (c : Thread nD τ) none Set.univ (m := M) hS) $$ H; iintro H
  iapply Hk
  iexists f; isplitr; · ipureintro; exact hf
  iexact H

/-- A load from the memref held: of contents `X` it reads `X'`. -/
theorem ld_held {cs : CoreSpace} {s : Shape} {e : EltTy} {M : Memref sig .tc cs s e} {r : LoadRect s} {hl : M.view.LoadsAt r}
    {k : (r.shape.Idx → Elt F e) → Prog (TpuEff nD τ sig (Elt F) Λ₀ .tc) α} {q : PosShare TreeShare} {X : s.Idx → Elt F e}
    (X' : r.shape.Idx → Elt F e) (hX : ∀ i, X (r.idx i) = X' i) :
    ownAt c M q X
      ⊢ iprop((ownAt c M q X -∗ wp frame (wpE (defs₀ (F := F)) 𝒱₀ (c : Thread nD τ) none) Set.univ (k X') Q)
        -∗ wp frame (wpE (defs₀ (F := F)) 𝒱₀ (c : Thread nD τ) none) Set.univ (.op (.load M r hl) k) Q) :=
  wp_ld c (fun f => M.view.read (Elt F) f = X) X' (View.setOn_subset_set _ _) fun f hf => by
    funext i; rw [View.readAt_apply, hf]; exact hX i

/-- The whole-buffer rectangle of a matrix reads each entry in its place. -/
theorem idx_full2 {a b : ℕ} {inb} (i : (⟨2, ![a, b]⟩ : Shape).Idx) :
    (Rect.unit (s := ⟨2, ![a, b]⟩) ![0, 0] ![a, b] inb).toLoadRect.idx i = i := by
  funext d; refine Fin.ext ?_
  fin_cases d
  · show 0 + 1 * (i 0).val = (i 0).val; omega
  · show 0 + 1 * (i 1).val = (i 1).val; omega

/-- A store over the whole of the memref held. -/
theorem st_held {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {X : s.Idx → Elt F e} (X' : s.Idx → Elt F e)
    (hX : ∀ f, M.view.read (Elt F) ((M.access r).write (Elt F) f w Finset.univ) = X') :
    ownAt c M fullShare X
      ⊢ iprop((ownAt c M fullShare X' -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) :=
  wp_st c (M := M) (r := r) (S := M.view.set) (fun f => M.view.read (Elt F) f = X) (fun f => M.view.read (Elt F) f = X') (View.set_slice_subset _ r) (fun f _ => hX f)

/-- The device's own half of the gathered rows: a load of it, and a store into it. -/
theorem ld_lo {X : Vec F S256x512 .bf16} {hl} {k : (S256x512.Idx → Elt F .bf16) → Prog (TpuEff nD τ sig (Elt F) Λ₀ .tc) α} :
    ownAt c loM fullShare X
      ⊢ iprop((ownAt c loM fullShare X -∗ wp frame (wpE (defs₀ (F := F)) 𝒱₀ (c : Thread nD τ) none) Set.univ (k X) Q)
        -∗ wp frame (wpE (defs₀ (F := F)) 𝒱₀ (c : Thread nD τ) none) Set.univ (.op (.load xfM rLo.toLoadRect hl) k) Q) :=
  wp_ld c (M := xfM) (r := rLo.toLoadRect) (S := loM.view.set) (fun f => loM.view.read (Elt F) f = X) X
    (by rw [setOn_toLoad]) fun f hf => hf
theorem st_lo {X w : Vec F S256x512 .bf16} {hx hm} {k : PUnit → Prog (TpuEff nD τ sig (Elt F) Λ₀ .tc) α} :
    ownAt c loM fullShare X
      ⊢ iprop((ownAt c loM fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store xfM rLo w Finset.univ hx hm) k) Q) :=
  wp_st c (M := xfM) (r := rLo) (S := loM.view.set) (fun f => loM.view.read (Elt F) f = X) (fun f => loM.view.read (Elt F) f = w)
    (Finset.Subset.refl _) fun f _ => View.read_write_univ (v := xfM.access rLo) f w

/-- The two chunks of the partner's rows. -/
theorem ld_top {X : Vec F S256x512 .bf16} {hl} {k : (S128x512.Idx → Elt F .bf16) → Prog (TpuEff nD τ sig (Elt F) Λ₀ .tc) α} :
    ownAt c hiM fullShare X
      ⊢ iprop((ownAt c hiM fullShare X -∗ wp frame (wpE (defs₀ (F := F)) 𝒱₀ (c : Thread nD τ) none) Set.univ (k (top X)) Q)
        -∗ wp frame (wpE (defs₀ (F := F)) 𝒱₀ (c : Thread nD τ) none) Set.univ (.op (.load xfM rT.toLoadRect hl) k) Q) :=
  wp_ld c (M := xfM) (r := rT.toLoadRect) (S := hiM.view.set) (fun f => hiM.view.read (Elt F) f = X) (top X) rT_subset fun f hf => read_top f X hf
theorem ld_bot {X : Vec F S256x512 .bf16} {hl} {k : (S128x512.Idx → Elt F .bf16) → Prog (TpuEff nD τ sig (Elt F) Λ₀ .tc) α} :
    ownAt c hiM fullShare X
      ⊢ iprop((ownAt c hiM fullShare X -∗ wp frame (wpE (defs₀ (F := F)) 𝒱₀ (c : Thread nD τ) none) Set.univ (k (bot X)) Q)
        -∗ wp frame (wpE (defs₀ (F := F)) 𝒱₀ (c : Thread nD τ) none) Set.univ (.op (.load xfM rB.toLoadRect hl) k) Q) :=
  wp_ld c (M := xfM) (r := rB.toLoadRect) (S := hiM.view.set) (fun f => hiM.view.read (Elt F) f = X) (bot X) rB_subset fun f hf => read_bot f X hf

/-- The chunks sent: loads whose value is not used, and stores. -/
theorem ld_cs0 {X : Vec F S128x512 .bf16} {hl} {k : (S1x128x512.Idx → Elt F .bf16) → Prog (TpuEff nD τ sig (Elt F) Λ₀ .tc) α} :
    ownAt c cs0M fullShare X
      ⊢ iprop((∀ x, ownAt c cs0M fullShare X -∗ wp frame (wpE (defs₀ (F := F)) 𝒱₀ (c : Thread nD τ) none) Set.univ (k x) Q)
        -∗ wp frame (wpE (defs₀ (F := F)) 𝒱₀ (c : Thread nD τ) none) Set.univ (.op (.load csM rC0.toLoadRect hl) k) Q) :=
  ld_any c (M := csM) (r := rC0.toLoadRect) (S := cs0M.view.set) (fun f => cs0M.view.read (Elt F) f = X) (by rw [setOn_toLoad, cs0_access])
theorem ld_cs1 {X : Vec F S128x512 .bf16} {hl} {k : (S1x128x512.Idx → Elt F .bf16) → Prog (TpuEff nD τ sig (Elt F) Λ₀ .tc) α} :
    ownAt c cs1M fullShare X
      ⊢ iprop((∀ x, ownAt c cs1M fullShare X -∗ wp frame (wpE (defs₀ (F := F)) 𝒱₀ (c : Thread nD τ) none) Set.univ (k x) Q)
        -∗ wp frame (wpE (defs₀ (F := F)) 𝒱₀ (c : Thread nD τ) none) Set.univ (.op (.load csM rC1.toLoadRect hl) k) Q) :=
  ld_any c (M := csM) (r := rC1.toLoadRect) (S := cs1M.view.set) (fun f => cs1M.view.read (Elt F) f = X) (by rw [setOn_toLoad, cs1_access])
theorem st_cs0 {X : Vec F S128x512 .bf16} {w : Vec F S1x128x512 .bf16} {hx hm} {k : PUnit → Prog (TpuEff nD τ sig (Elt F) Λ₀ .tc) α} :
    ownAt c cs0M fullShare X
      ⊢ iprop((ownAt c cs0M fullShare (flat w) -∗ wp frame (wpE (defs₀ (F := F)) 𝒱₀ (c : Thread nD τ) none) Set.univ (k ⟨⟩) Q)
        -∗ wp frame (wpE (defs₀ (F := F)) 𝒱₀ (c : Thread nD τ) none) Set.univ (.op (.store csM rC0 w Finset.univ hx hm) k) Q) :=
  wp_st c (M := csM) (r := rC0) (S := cs0M.view.set) (fun f => cs0M.view.read (Elt F) f = X) (fun f => cs0M.view.read (Elt F) f = flat w)
    (by rw [cs0_access]) fun f _ => write_cs0 f w
theorem st_cs1 {X : Vec F S128x512 .bf16} {w : Vec F S1x128x512 .bf16} {hx hm} {k : PUnit → Prog (TpuEff nD τ sig (Elt F) Λ₀ .tc) α} :
    ownAt c cs1M fullShare X
      ⊢ iprop((ownAt c cs1M fullShare (flat w) -∗ wp frame (wpE (defs₀ (F := F)) 𝒱₀ (c : Thread nD τ) none) Set.univ (k ⟨⟩) Q)
        -∗ wp frame (wpE (defs₀ (F := F)) 𝒱₀ (c : Thread nD τ) none) Set.univ (.op (.store csM rC1 w Finset.univ hx hm) k) Q) :=
  wp_st c (M := csM) (r := rC1) (S := cs1M.view.set) (fun f => cs1M.view.read (Elt F) f = X) (fun f => cs1M.view.read (Elt F) f = flat w)
    (by rw [cs1_access]) fun f _ => write_cs1 f w

/-- The chunks received. -/
theorem ld_br0 {Y : Vec F S1x128x512 .bf16} {hl} {k : (S1x128x512.Idx → Elt F .bf16) → Prog (TpuEff nD τ sig (Elt F) Λ₀ .tc) α} :
    ownAt c br0M fullShare (flat Y)
      ⊢ iprop((ownAt c br0M fullShare (flat Y) -∗ wp frame (wpE (defs₀ (F := F)) 𝒱₀ (c : Thread nD τ) none) Set.univ (k Y) Q)
        -∗ wp frame (wpE (defs₀ (F := F)) 𝒱₀ (c : Thread nD τ) none) Set.univ (.op (.load brM rC0.toLoadRect hl) k) Q) :=
  wp_ld c (M := brM) (r := rC0.toLoadRect) (S := br0M.view.set) (fun f => br0M.view.read (Elt F) f = flat Y) Y
    (by rw [setOn_toLoad, br0_set, View.set_slice_whole]) fun f hf => read_br0 f Y hf
theorem ld_br1 {Y : Vec F S1x128x512 .bf16} {hl} {k : (S1x128x512.Idx → Elt F .bf16) → Prog (TpuEff nD τ sig (Elt F) Λ₀ .tc) α} :
    ownAt c br1M fullShare (flat Y)
      ⊢ iprop((ownAt c br1M fullShare (flat Y) -∗ wp frame (wpE (defs₀ (F := F)) 𝒱₀ (c : Thread nD τ) none) Set.univ (k Y) Q)
        -∗ wp frame (wpE (defs₀ (F := F)) 𝒱₀ (c : Thread nD τ) none) Set.univ (.op (.load brM rC1.toLoadRect hl) k) Q) :=
  wp_ld c (M := brM) (r := rC1.toLoadRect) (S := br1M.view.set) (fun f => br1M.view.read (Elt F) f = flat Y) Y
    (by rw [setOn_toLoad, br1_set, View.set_slice_whole]) fun f hf => read_br1 f Y hf

/-! ## The result block -/

variable (m : (ℓ : Loc nD τ sig) → Buf (Elt F) ℓ)

/-- The result block with its first half written. -/
def half : sProp (MF F) :=
  iprop(∃ f, ⌜∃ f₀, f = (oM.access rO0).write (Elt F) f₀ (out0 m c) Finset.univ⌝ ∗ (oM.view.loc (c : Thread nD τ) ↦[oM.view.set]{fullShare} f))

theorem ld_out {X : Vec F S256x512 .f32} {r : LoadRect S256x512} {hl} {k : (r.shape.Idx → Elt F .f32) → Prog (TpuEff nD τ sig (Elt F) Λ₀ .tc) α} :
    ownAt c oM fullShare X
      ⊢ iprop((∀ x, ownAt c oM fullShare X -∗ wp frame (wpE (defs₀ (F := F)) 𝒱₀ (c : Thread nD τ) none) Set.univ (k x) Q)
        -∗ wp frame (wpE (defs₀ (F := F)) 𝒱₀ (c : Thread nD τ) none) Set.univ (.op (.load oM r hl) k) Q) :=
  ld_any c (M := oM) (S := oM.view.set) (fun f => oM.view.read (Elt F) f = X) (View.setOn_subset_set _ _)
theorem st_out0 {X : Vec F S256x512 .f32} {hx hm} {k : PUnit → Prog (TpuEff nD τ sig (Elt F) Λ₀ .tc) α} :
    ownAt c oM fullShare X
      ⊢ iprop((half c m -∗ wp frame (wpE (defs₀ (F := F)) 𝒱₀ (c : Thread nD τ) none) Set.univ (k ⟨⟩) Q)
        -∗ wp frame (wpE (defs₀ (F := F)) 𝒱₀ (c : Thread nD τ) none) Set.univ (.op (.store oM rO0 (out0 m c) Finset.univ hx hm) k) Q) :=
  wp_st c (M := oM) (r := rO0) (S := oM.view.set) (fun f => oM.view.read (Elt F) f = X) (fun f => ∃ f₀, f = (oM.access rO0).write (Elt F) f₀ (out0 m c) Finset.univ)
    (View.set_slice_subset _ _) fun f _ => ⟨f, rfl⟩
theorem ld_half {r : LoadRect S256x512} {hl} {k : (r.shape.Idx → Elt F .f32) → Prog (TpuEff nD τ sig (Elt F) Λ₀ .tc) α} :
    half c m
      ⊢ iprop((∀ x, half c m -∗ wp frame (wpE (defs₀ (F := F)) 𝒱₀ (c : Thread nD τ) none) Set.univ (k x) Q)
        -∗ wp frame (wpE (defs₀ (F := F)) 𝒱₀ (c : Thread nD τ) none) Set.univ (.op (.load oM r hl) k) Q) :=
  ld_any c (M := oM) (S := oM.view.set) (fun f => ∃ f₀, f = (oM.access rO0).write (Elt F) f₀ (out0 m c) Finset.univ) (View.setOn_subset_set _ _)
theorem st_out1 {hx hm} {k : PUnit → Prog (TpuEff nD τ sig (Elt F) Λ₀ .tc) α} :
    half c m
      ⊢ iprop((ownAt c oM fullShare (outAt m c) -∗ wp frame (wpE (defs₀ (F := F)) 𝒱₀ (c : Thread nD τ) none) Set.univ (k ⟨⟩) Q)
        -∗ wp frame (wpE (defs₀ (F := F)) 𝒱₀ (c : Thread nD τ) none) Set.univ (.op (.store oM rO1 (out1 m c) Finset.univ hx hm) k) Q) :=
  wp_st c (M := oM) (r := rO1) (S := oM.view.set) (fun f => ∃ f₀, f = (oM.access rO0).write (Elt F) f₀ (out0 m c) Finset.univ) (fun f => oM.view.read (Elt F) f = outAt m c)
    (View.set_slice_subset _ _) fun f ⟨f₀, hf⟩ => by subst hf; exact write_out m c f₀

end Cert.KernelIdeal.Exchange

end
-- ==== Proof.Parts.lean ====
/-
The kernel body's first seven parts, each run from what it needs to what it leaves.
-/
module

public import proofs.«01_k».proof.Proof.Access

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (K : Dev nD × Fin 13 → ℕ) (c : Dev nD)

/-- The duty to credit device `c`'s semaphore `k`; the expectation of that credit; the semaphore before and after it is consumed. -/
abbrev tok (c : Dev nD) (k : Fin 13) : sProp (MF F) := dutyTok ER (kcell c k) 0 ()
abbrev crd (c : Dev nD) (k : Fin 13) : sProp (MF F) := cred (tallyAt (kcell c k) () (amt k))
abbrev at0 (c : Dev nD) (k : Fin 13) : sProp (MF F) := atPos ER (kcell c k) 0 ∅ 0
abbrev at1 (c : Dev nD) (k : Fin 13) : sProp (MF F) := atPos ER (kcell c k) 1 ∅ 0

/-- A store over the whole buffer of weights. -/
theorem write_ws (f : (cc0_scratch4 : Ref sig .tc).ty.Contents (Elt F)) (w : Vec F S256x2 .f32) {inb} :
    wsM.view.read (Elt F) ((wsM.access (Rect.unit (s := S256x2) ![0, 0] S256x2.size inb)).write (Elt F) f w Finset.univ) = w :=
  (View.read_whole (Val := Elt F) cc0_scratch4 _).trans (Memref.write_access_unit_zero_univ (Elt F) cc0_scratch4 zero2 inb f w)

set_option maxHeartbeats 2000000 in
/-- The first part: the weights' copies start, the partners greet each other, and the rows of `x` are narrowed. -/
theorem part1 {Q : _ → sProp (MF F)} :
    iprop(env m K ∗ ownAt c w1M fullShare (w1 m c) ∗ ownAt c w2M fullShare (w2 m c) ∗ (∃ X, ownAt c u1M fullShare X) ∗ (∃ X, ownAt c u2M fullShare X)
        ∗ tok c 11 ∗ tok c 12 ∗ landing c ∗ debt c (oweAll c) ∗ tok (peer c) 0 ∗ crd c 0 ∗ at0 c 0
        ∗ ownAt c xM fullShare (xs m c) ∗ (∃ X, ownAt c loM fullShare X)
        ∗ (∀ v5 v6, (crd c 11 ∗ crd c 12 ∗ debt c (owe1 c) ∗ at1 c 0 ∗ landing (peer c) ∗ ownAt c xM fullShare (xs m c) ∗ ownAt c loM fullShare (xn m c)) -∗ Q ⟨c, v5, v6, k0_pay2 (xs m c)⟩))
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  rw [k0_part1_eq_skeleton]; unfold k0_part1_skel
  simp only [semSignalWord, semWaitWord, Prog.lift, Prog.bind_op, Prog.bind_ret, Prog.pure_eq_ret, wp_deviceId]
  iintro ⟨#He, Hw1, Hw2, Hu1, Hu2, Ht11, Ht12, Hl, Ho, HtB, HcB, HaB, Hx, Hlo, Hk⟩
  iapply (wp_cp m K c 11 (w1 m c) rfl rfl rfl) $$ [Hw1 Hu1 Ht11]
  · isplitr; · iexact He
    isplitl [Hw1]; · iexact Hw1
    isplitl [Hu1]; · iexact Hu1
    iexact Ht11
  iintro Hc11
  iapply (wp_cp m K c 12 (w2 m c) rfl rfl rfl) $$ [Hw2 Hu2 Ht12]
  · isplitr; · iexact He
    isplitl [Hw2]; · iexact Hw2
    isplitl [Hu2]; · iexact Hu2
    iexact Ht12
  iintro Hc12
  iapply (wp_hello m K c _ (dev1_eq c) rfl rfl) $$ [Hl Ho HtB]
  · isplitr; · iexact He
    isplitl [Hl]; · iexact Hl
    isplitl [Ho]; · iexact Ho
    iexact HtB
  iintro Ho
  iapply (wp_await m K c 0 (wpE_semWait_eq 𝒱₀ (c : Thread nD τ) none Set.univ) rfl rfl (n := 1) (by decide) (above_owe1 c 1 (by decide)) (landing (peer c)) rfl) $$ [HcB Ho HaB]
  · isplitr; · iexact He
    isplitl [HcB]; · iexact HcB
    isplitl [Ho]; · iexact Ho
    iexact HaB
  iintro ⟨Ho, HaB, Hl⟩
  iapply (ld_held c (M := xM) (xs m c) fun i => congrArg (xs m c) (idx_full2 i)) $$ Hx; iintro Hx
  icases Hlo with ⟨%X, Hlo⟩
  iapply (ld_lo c) $$ Hlo; iintro Hlo
  iapply (st_lo c) $$ Hlo; iintro Hlo
  rw [wp_ret]; imodintro
  iapply Hk
  isplitl [Hc11]; · iexact Hc11
  isplitl [Hc12]; · iexact Hc12
  isplitl [Ho]; · iexact Ho
  isplitl [HaB]; · iexact HaB
  isplitl [Hl]; · iexact Hl
  isplitl [Hx]; · iexact Hx
  iexact Hlo

set_option maxHeartbeats 2000000 in
/-- The second part: the narrowed rows and the router columns leave for the partner, and the weights arrive. -/
theorem part2 (v5 v6 : BitVec 32) {Q : _ → sProp (MF F)} :
    iprop(env m K ∗ ownAt c loM fullShare (xn m c) ∗ (∃ X, ownAt (peer c) hiM fullShare X) ∗ ownAt c rM fullShare (rt m c) ∗ (∃ X, ownAt (peer c) rpM fullShare X)
        ∗ debt c (owe1 c) ∗ tok c 2 ∗ tok (peer c) 7 ∗ tok c 1 ∗ tok (peer c) 6 ∗ crd c 11 ∗ crd c 12 ∗ at0 c 11 ∗ at0 c 12
        ∗ ((crd c 2 ∗ crd c 1 ∗ debt c (owe2 c) ∗ at1 c 11 ∗ at1 c 12
          ∗ ownAt c u1M fullShare (w1 m c) ∗ ownAt c w1M fullShare (w1 m c) ∗ ownAt c u2M fullShare (w2 m c) ∗ ownAt c w2M fullShare (w2 m c)) -∗ Q ⟨k0_pay4 (a0 m c), k0_pay5 (a1 m c), k0_pay6 (b0 m c), k0_pay7 (b1 m c), k0_pay8 (k0_pay2 (xs m c)) (a0 m c) (b0 m c), constant S256x1024 .f32 0x00000000#32⟩))
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v6 (k0_pay2 (xs m c))) Q := by
  rw [k0_part2_eq_skeleton]; unfold k0_part2_skel
  simp only [semSignalWord, semWaitWord, Prog.lift, Prog.bind_op, Prog.bind_ret, Prog.pure_eq_ret, wp_deviceId]
  iintro ⟨#He, Hlo, Hhi', Hr, Hrp', Ho, Ht2, Ht7, Ht1, Ht6, Hc11, Hc12, Ha11, Ha12, Hk⟩
  iapply (wp_msg m K c _ (dev2_eq c) 2 7 (xn m c) rfl rfl rfl rfl (owe0 c) rfl rfl (by unfold pay; rw [peer_peer])) $$ [Hlo Hhi' Ho Ht2 Ht7]
  · isplitr; · iexact He
    isplitl [Hlo]; · iexact Hlo
    isplitl [Hhi']; · iexact Hhi'
    isplitl [Ho]; · iexact Ho
    isplitl [Ht2]; · iexact Ht2
    iexact Ht7
  iintro ⟨Hc2, Ho⟩
  iapply (wp_msg m K c _ (dev3_eq c) 1 6 (rt m c) rfl rfl rfl rfl (owe2 c) rfl rfl (by unfold pay; rw [peer_peer])) $$ [Hr Hrp' Ho Ht1 Ht6]
  · isplitr; · iexact He
    isplitl [Hr]; · iexact Hr
    isplitl [Hrp']; · iexact Hrp'
    isplitl [Ho]; · iexact Ho
    isplitl [Ht1]; · iexact Ht1
    iexact Ht6
  iintro ⟨Hc1, Ho⟩
  iapply (wp_await m K c 11 (wpE_waitDma2_eq 𝒱₀ (c : Thread nD τ) none Set.univ (src := w1M) (dst := u1M)) rfl rfl (n := 0) (by decide) (above_owe2 c 0 (by decide)) iprop(ownAt c u1M fullShare (w1 m c) ∗ ownAt c w1M fullShare (w1 m c)) rfl) $$ [Hc11 Ho Ha11]
  · isplitr; · iexact He
    isplitl [Hc11]; · iexact Hc11
    isplitl [Ho]; · iexact Ho
    iexact Ha11
  iintro ⟨Ho, Ha11, ⟨Hu1, Hw1⟩⟩
  iapply (wp_await m K c 12 (wpE_waitDma2_eq 𝒱₀ (c : Thread nD τ) none Set.univ (src := w2M) (dst := u2M)) rfl rfl (n := 0) (by decide) (above_owe2 c 0 (by decide)) iprop(ownAt c u2M fullShare (w2 m c) ∗ ownAt c w2M fullShare (w2 m c)) rfl) $$ [Hc12 Ho Ha12]
  · isplitr; · iexact He
    isplitl [Hc12]; · iexact Hc12
    isplitl [Ho]; · iexact Ho
    iexact Ha12
  iintro ⟨Ho, Ha12, ⟨Hu2, Hw2⟩⟩
  iapply (ld_held c (M := u1M) (X := w1 m c) (a0 m c) fun i => rfl) $$ Hu1; iintro Hu1
  iapply (ld_held c (M := u1M) (X := w1 m c) (a1 m c) fun i => rfl) $$ Hu1; iintro Hu1
  iapply (ld_held c (M := u2M) (X := w2 m c) (b0 m c) fun i => rfl) $$ Hu2; iintro Hu2
  iapply (ld_held c (M := u2M) (X := w2 m c) (b1 m c) fun i => rfl) $$ Hu2; iintro Hu2
  rw [wp_ret]; imodintro
  iapply Hk
  isplitl [Hc2]; · iexact Hc2
  isplitl [Hc1]; · iexact Hc1
  isplitl [Ho]; · iexact Ho
  isplitl [Ha11]; · iexact Ha11
  isplitl [Ha12]; · iexact Ha12
  isplitl [Hu1]; · iexact Hu1
  isplitl [Hw1]; · iexact Hw1
  isplitl [Hu2]; · iexact Hu2
  iexact Hw2

set_option maxHeartbeats 2000000 in
/-- The third part: the partner's router columns arrive, and the routing weights are computed. -/
theorem part3 (v5 v6 : BitVec 32) (v18 : FVec F S256x512 .bf16) (v49 : FVec F S512x1024 .bf16)
    (v55 : FVec F S1024x512 .bf16) (z : FVec F S256x1024 .f32) {Q : _ → sProp (MF F)} :
    iprop(env m K ∗ debt c (owe2 c) ∗ crd c 1 ∗ at0 c 1 ∗ crd c 6 ∗ at0 c 6 ∗ ownAt c xM fullShare (xs m c)
        ∗ ((debt c (owe2 c) ∗ at1 c 1 ∗ at1 c 6 ∗ ownAt c rM fullShare (rt m c) ∗ ownAt c rpM fullShare (rt m (peer c)) ∗ ownAt c xM fullShare (xs m c)) -∗ Q ⟨k0_pay9 v18 v49 v55 z, ex m c, exSum m c⟩))
      ⊢ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v6 v18 v49 v55 z) Q := by
  rw [k0_part3_eq_skeleton]; unfold k0_part3_skel
  simp only [semSignalWord, semWaitWord, Prog.lift, Prog.bind_op, Prog.bind_ret, Prog.pure_eq_ret, wp_deviceId]
  iintro ⟨#He, Ho, Hc1, Ha1, Hc6, Ha6, Hx, Hk⟩
  unfold ex exSum
  iapply (wp_await m K c 1 (wpE_waitDma2_eq 𝒱₀ (c : Thread nD τ) none Set.univ (src := rpM) (dst := rM)) rfl rfl (n := 0) (by decide) (above_owe2 c 0 (by decide)) (ownAt c rM fullShare (rt m c)) rfl) $$ [Hc1 Ho Ha1]
  · isplitr; · iexact He
    isplitl [Hc1]; · iexact Hc1
    isplitl [Ho]; · iexact Ho
    iexact Ha1
  iintro ⟨Ho, Ha1, Hr⟩
  iapply (wp_await m K c 6 (wpE_waitDma2_eq 𝒱₀ (c : Thread nD τ) none Set.univ (src := rM) (dst := rpM)) rfl rfl (n := 2) (by decide) (above_owe2 c 2 (by decide)) (ownAt c rpM fullShare (rt m (peer c))) rfl) $$ [Hc6 Ho Ha6]
  · isplitr; · iexact He
    isplitl [Hc6]; · iexact Hc6
    isplitl [Ho]; · iexact Ho
    iexact Ha6
  iintro ⟨Ho, Ha6, Hrp⟩
  iapply (ld_held c (M := rM) (rt m c) fun i => congrArg (rt m c) (idx_full2 i)) $$ Hr; iintro Hr
  iapply (ld_held c (M := rpM) (rt m (peer c)) fun i => congrArg (rt m (peer c)) (idx_full2 i)) $$ Hrp; iintro Hrp
  iapply (ld_held c (M := xM) (xs m c) fun i => congrArg (xs m c) (idx_full2 i)) $$ Hx; iintro Hx
  rw [wp_ret]; imodintro
  iapply Hk
  isplitl [Ho]; · iexact Ho
  isplitl [Ha1]; · iexact Ha1
  isplitl [Ha6]; · iexact Ha6
  isplitl [Hr]; · iexact Hr
  isplitl [Hrp]; · iexact Hrp
  iexact Hx

set_option maxHeartbeats 2000000 in
/-- The fourth part: the weights of the partner's experts leave for the partner; the narrowed rows are free again. -/
theorem part4 (v5 v6 : BitVec 32) (v60 v65 : FVec F S256x512 .f32) {Q : _ → sProp (MF F)} :
    iprop(env m K ∗ (∃ X, ownAt c wsM fullShare X) ∗ (∃ X, ownAt (peer c) wrM fullShare X) ∗ debt c (owe2 c) ∗ tok c 3 ∗ tok (peer c) 8 ∗ crd c 2 ∗ at0 c 2
        ∗ ((crd c 3 ∗ debt c (owe3 c) ∗ at1 c 2 ∗ ownAt c loM fullShare (xn m c)) -∗ Q (k0_pay14 v60 v65 (ex m c) (exSum m c))))
      ⊢ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v6 v60 v65 (ex m c) (exSum m c)) Q := by
  rw [k0_part4_eq_skeleton]; unfold k0_part4_skel
  simp only [semSignalWord, semWaitWord, Prog.lift, Prog.bind_op, Prog.bind_ret, Prog.pure_eq_ret, wp_deviceId]
  iintro ⟨#He, Hws, Hwr', Ho, Ht3, Ht8, Hc2, Ha2, Hk⟩
  icases Hws with ⟨%X, Hws⟩
  iapply (ld_held c (M := wsM) (X := X) X fun i => congrArg X (idx_full2 i)) $$ Hws; iintro Hws
  iapply (st_held c (M := wsM) (ws m c) fun f => write_ws f (ws m c)) $$ Hws; iintro Hws
  iapply (wp_msg m K c _ (dev4_eq c) 3 8 (ws m c) rfl rfl rfl rfl (owe3 c) rfl rfl (by unfold pay; rw [peer_peer])) $$ [Hws Hwr' Ho Ht3 Ht8]
  · isplitr; · iexact He
    isplitl [Hws]; · iexact Hws
    isplitl [Hwr']; · iexact Hwr'
    isplitl [Ho]; · iexact Ho
    isplitl [Ht3]; · iexact Ht3
    iexact Ht8
  iintro ⟨Hc3, Ho⟩
  iapply (wp_await m K c 2 (wpE_waitDma2_eq 𝒱₀ (c : Thread nD τ) none Set.univ (src := hiM) (dst := loM)) rfl rfl (n := 0) (by decide) (above_owe3 c 0 (by decide)) (ownAt c loM fullShare (xn m c)) rfl) $$ [Hc2 Ho Ha2]
  · isplitr; · iexact He
    isplitl [Hc2]; · iexact Hc2
    isplitl [Ho]; · iexact Ho
    iexact Ha2
  iintro ⟨Ho, Ha2, Hlo⟩
  rw [wp_ret]; imodintro
  iapply Hk
  isplitl [Hc3]; · iexact Hc3
  isplitl [Ho]; · iexact Ho
  isplitl [Ha2]; · iexact Ha2
  iexact Hlo

set_option maxHeartbeats 2000000 in
/-- The fifth part: the partner's rows and weights arrive, and the first chunk for the partner is computed. -/
theorem part5 (v5 v6 : BitVec 32) {Q : _ → sProp (MF F)} :
    iprop(env m K ∗ debt c (owe3 c) ∗ crd c 7 ∗ at0 c 7 ∗ crd c 3 ∗ at0 c 3 ∗ crd c 8 ∗ at0 c 8 ∗ (∃ X, ownAt c cs0M fullShare X)
        ∗ ((debt c (owe3 c) ∗ at1 c 7 ∗ at1 c 3 ∗ at1 c 8 ∗ ownAt c hiM fullShare (xn m (peer c)) ∗ ownAt c wsM fullShare (ws m c)
          ∗ ownAt c wrM fullShare (ws m (peer c)) ∗ ownAt c cs0M fullShare (flat (ch0 m c))) -∗ Q (ws m (peer c))))
      ⊢ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v6 (k0_pay4 (a0 m c)) (k0_pay5 (a1 m c)) (k0_pay6 (b0 m c)) (k0_pay7 (b1 m c))) Q := by
  rw [k0_part5_eq_skeleton]; unfold k0_part5_skel
  simp only [semSignalWord, semWaitWord, Prog.lift, Prog.bind_op, Prog.bind_ret, Prog.pure_eq_ret, wp_deviceId]
  iintro ⟨#He, Ho, Hc7, Ha7, Hc3, Ha3, Hc8, Ha8, Hcs, Hk⟩
  iapply (wp_await m K c 7 (wpE_waitDma2_eq 𝒱₀ (c : Thread nD τ) none Set.univ (src := loM) (dst := hiM)) rfl rfl (n := 2) (by decide) (above_owe3 c 2 (by decide)) (ownAt c hiM fullShare (xn m (peer c))) rfl) $$ [Hc7 Ho Ha7]
  · isplitr; · iexact He
    isplitl [Hc7]; · iexact Hc7
    isplitl [Ho]; · iexact Ho
    iexact Ha7
  iintro ⟨Ho, Ha7, Hhi⟩
  iapply (wp_await m K c 3 (wpE_waitDma2_eq 𝒱₀ (c : Thread nD τ) none Set.univ (src := wrM) (dst := wsM)) rfl rfl (n := 0) (by decide) (above_owe3 c 0 (by decide)) (ownAt c wsM fullShare (ws m c)) rfl) $$ [Hc3 Ho Ha3]
  · isplitr; · iexact He
    isplitl [Hc3]; · iexact Hc3
    isplitl [Ho]; · iexact Ho
    iexact Ha3
  iintro ⟨Ho, Ha3, Hws⟩
  iapply (wp_await m K c 8 (wpE_waitDma2_eq 𝒱₀ (c : Thread nD τ) none Set.univ (src := wsM) (dst := wrM)) rfl rfl (n := 3) (by decide) (above_owe3 c 3 (by decide)) (ownAt c wrM fullShare (ws m (peer c))) rfl) $$ [Hc8 Ho Ha8]
  · isplitr; · iexact He
    isplitl [Hc8]; · iexact Hc8
    isplitl [Ho]; · iexact Ho
    iexact Ha8
  iintro ⟨Ho, Ha8, Hwr⟩
  iapply (ld_held c (M := wrM) (ws m (peer c)) fun i => congrArg (ws m (peer c)) (idx_full2 i)) $$ Hwr; iintro Hwr
  iapply (ld_top c) $$ Hhi; iintro Hhi
  icases Hcs with ⟨%X, Hcs⟩
  iapply (ld_cs0 c) $$ Hcs; iintro %_ Hcs
  iapply (st_cs0 c) $$ Hcs; iintro Hcs
  rw [wp_ret]; imodintro
  iapply Hk
  isplitl [Ho]; · iexact Ho
  isplitl [Ha7]; · iexact Ha7
  isplitl [Ha3]; · iexact Ha3
  isplitl [Ha8]; · iexact Ha8
  isplitl [Hhi]; · iexact Hhi
  isplitl [Hws]; · iexact Hws
  isplitl [Hwr]; · iexact Hwr
  iexact Hcs

set_option maxHeartbeats 2000000 in
/-- The sixth part: the first chunk leaves, and the second is computed. -/
theorem part6 (v5 v6 : BitVec 32) {Q : _ → sProp (MF F)} :
    iprop(env m K ∗ ownAt c cs0M fullShare (flat (ch0 m c)) ∗ (∃ X, ownAt (peer c) br0M fullShare X) ∗ debt c (owe3 c) ∗ tok c 4 ∗ tok (peer c) 9
        ∗ ownAt c hiM fullShare (xn m (peer c)) ∗ (∃ X, ownAt c cs1M fullShare X)
        ∗ ((crd c 4 ∗ debt c (owe4 c) ∗ ownAt c hiM fullShare (xn m (peer c)) ∗ ownAt c cs1M fullShare (flat (ch1 m c))) -∗ Q (Scalar.muli v6 2#32)))
      ⊢ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v6 (k0_pay4 (a0 m c)) (k0_pay5 (a1 m c)) (k0_pay6 (b0 m c)) (k0_pay7 (b1 m c)) (ws m (peer c))) Q := by
  rw [k0_part6_eq_skeleton]; unfold k0_part6_skel
  simp only [semSignalWord, semWaitWord, Prog.lift, Prog.bind_op, Prog.bind_ret, Prog.pure_eq_ret, wp_deviceId]
  iintro ⟨#He, Hcs0, Hbr', Ho, Ht4, Ht9, Hhi, Hcs, Hk⟩
  iapply (wp_msg m K c _ (dev5_eq c) 4 9 (flat (ch0 m c)) rfl rfl rfl rfl (owe4 c) rfl rfl (by unfold pay; rw [peer_peer])) $$ [Hcs0 Hbr' Ho Ht4 Ht9]
  · isplitr; · iexact He
    isplitl [Hcs0]; · iexact Hcs0
    isplitl [Hbr']; · iexact Hbr'
    isplitl [Ho]; · iexact Ho
    isplitl [Ht4]; · iexact Ht4
    iexact Ht9
  iintro ⟨Hc4, Ho⟩
  iapply (ld_bot c) $$ Hhi; iintro Hhi
  icases Hcs with ⟨%X, Hcs⟩
  iapply (ld_cs1 c) $$ Hcs; iintro %_ Hcs
  iapply (st_cs1 c) $$ Hcs; iintro Hcs
  rw [wp_ret]; imodintro
  iapply Hk
  isplitl [Hc4]; · iexact Hc4
  isplitl [Ho]; · iexact Ho
  isplitl [Hhi]; · iexact Hhi
  iexact Hcs

set_option maxHeartbeats 2000000 in
/-- The seventh part: the second chunk leaves, and the partner's first chunk arrives. -/
theorem part7 (v5 v6 : BitVec 32) (v118 : FVec F S256x512 .f32) (v196 : BitVec 32) {Q : _ → sProp (MF F)} :
    iprop(env m K ∗ ownAt c cs1M fullShare (flat (ch1 m c)) ∗ (∃ X, ownAt (peer c) br1M fullShare X) ∗ debt c (owe4 c) ∗ tok c 5 ∗ tok (peer c) 10
        ∗ crd c 4 ∗ at0 c 4 ∗ crd c 9 ∗ at0 c 9
        ∗ ((crd c 5 ∗ debt c 0 ∗ at1 c 4 ∗ at1 c 9 ∗ ownAt c cs0M fullShare (flat (ch0 m c)) ∗ ownAt c br0M fullShare (flat (ch0 m (peer c)))) -∗ Q (k0_pay17 v118)))
      ⊢ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v6 v118 v196) Q := by
  rw [k0_part7_eq_skeleton]; unfold k0_part7_skel
  simp only [semSignalWord, semWaitWord, Prog.lift, Prog.bind_op, Prog.bind_ret, Prog.pure_eq_ret, wp_deviceId]
  iintro ⟨#He, Hcs1, Hbr', Ho, Ht5, Ht10, Hc4, Ha4, Hc9, Ha9, Hk⟩
  iapply (wp_msg m K c _ (dev6_eq c) 5 10 (flat (ch1 m c)) rfl rfl rfl rfl (0) (zero_add _).symm rfl (by unfold pay; rw [peer_peer])) $$ [Hcs1 Hbr' Ho Ht5 Ht10]
  · isplitr; · iexact He
    isplitl [Hcs1]; · iexact Hcs1
    isplitl [Hbr']; · iexact Hbr'
    isplitl [Ho]; · iexact Ho
    isplitl [Ht5]; · iexact Ht5
    iexact Ht10
  iintro ⟨Hc5, Ho⟩
  iapply (wp_await m K c 4 (wpE_waitDma2_eq 𝒱₀ (c : Thread nD τ) none Set.univ (src := br0M) (dst := cs0M)) rfl rfl (n := 0) (by decide) (above_zero c 0) (ownAt c cs0M fullShare (flat (ch0 m c))) rfl) $$ [Hc4 Ho Ha4]
  · isplitr; · iexact He
    isplitl [Hc4]; · iexact Hc4
    isplitl [Ho]; · iexact Ho
    iexact Ha4
  iintro ⟨Ho, Ha4, Hcs0⟩
  iapply (wp_await m K c 9 (wpE_waitDma2_eq 𝒱₀ (c : Thread nD τ) none Set.univ (src := cs0M) (dst := br0M)) rfl rfl (n := 4) (by decide) (above_zero c 4) (ownAt c br0M fullShare (flat (ch0 m (peer c)))) rfl) $$ [Hc9 Ho Ha9]
  · isplitr; · iexact He
    isplitl [Hc9]; · iexact Hc9
    isplitl [Ho]; · iexact Ho
    iexact Ha9
  iintro ⟨Ho, Ha9, Hbr0⟩
  rw [wp_ret]; imodintro
  iapply Hk
  isplitl [Hc5]; · iexact Hc5
  isplitl [Ho]; · iexact Ho
  isplitl [Ha4]; · iexact Ha4
  isplitl [Ha9]; · iexact Ha9
  isplitl [Hcs0]; · iexact Hcs0
  iexact Hbr0

end Cert.KernelIdeal.Exchange

end
-- ==== Proof.Body.lean ====
/-
The whole kernel body, run from what a device holds at its start to what it holds at its end.
-/
module

public import proofs.«01_k».proof.Proof.Parts

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (K : Dev nD × Fin 13 → ℕ) (c : Dev nD)

/-- What device `c` holds when its kernel starts: its semaphores' positions, the duties it pays, the credits it expects, the
    weights, and its buffers. -/
def before : sProp (MF F) :=
  iprop(at0 c 0 ∗ at0 c 1 ∗ at0 c 2 ∗ at0 c 3 ∗ at0 c 4 ∗ at0 c 5 ∗ at0 c 6 ∗ at0 c 7 ∗ at0 c 8 ∗ at0 c 9 ∗ at0 c 10 ∗ at0 c 11 ∗ at0 c 12
    ∗ tok c 1 ∗ tok c 2 ∗ tok c 3 ∗ tok c 4 ∗ tok c 5 ∗ tok c 11 ∗ tok c 12 ∗ tok (peer c) 0 ∗ tok (peer c) 6 ∗ tok (peer c) 7 ∗ tok (peer c) 8 ∗ tok (peer c) 9 ∗ tok (peer c) 10
    ∗ crd c 0 ∗ crd c 6 ∗ crd c 7 ∗ crd c 8 ∗ crd c 9 ∗ crd c 10
    ∗ ownAt c w1M fullShare (w1 m c) ∗ ownAt c w2M fullShare (w2 m c)
    ∗ (∃ X, ownAt c u1M fullShare X) ∗ (∃ X, ownAt c u2M fullShare X) ∗ (∃ X, ownAt c loM fullShare X) ∗ (∃ X, ownAt c wsM fullShare X) ∗ (∃ X, ownAt c cs0M fullShare X) ∗ (∃ X, ownAt c cs1M fullShare X)
    ∗ landing c
    ∗ debt c (oweAll c) ∗ ownAt c xM fullShare (xs m c) ∗ ownAt c rM fullShare (rt m c) ∗ (∃ X, ownAt c oM fullShare X))

/-- What device `c` holds when its kernel ends: every semaphore past its one message, and every buffer at what it holds then. -/
def after : sProp (MF F) :=
  iprop(at1 c 0 ∗ at1 c 1 ∗ at1 c 2 ∗ at1 c 3 ∗ at1 c 4 ∗ at1 c 5 ∗ at1 c 6 ∗ at1 c 7 ∗ at1 c 8 ∗ at1 c 9 ∗ at1 c 10 ∗ at1 c 11 ∗ at1 c 12
    ∗ ownAt c w1M fullShare (w1 m c) ∗ ownAt c w2M fullShare (w2 m c)
    ∗ ownAt c u1M fullShare (w1 m c) ∗ ownAt c u2M fullShare (w2 m c) ∗ ownAt c loM fullShare (xn m c) ∗ ownAt c hiM fullShare (xn m (peer c))
    ∗ ownAt c rpM fullShare (rt m (peer c)) ∗ ownAt c wsM fullShare (ws m c) ∗ ownAt c wrM fullShare (ws m (peer c))
    ∗ ownAt c cs0M fullShare (flat (ch0 m c)) ∗ ownAt c cs1M fullShare (flat (ch1 m c)) ∗ ownAt c br0M fullShare (flat (ch0 m (peer c))) ∗ ownAt c br1M fullShare (flat (ch1 m (peer c)))
    ∗ debt c 0 ∗ ownAt c xM fullShare (xs m c) ∗ ownAt c rM fullShare (rt m c) ∗ ownAt c oM fullShare (outAt m c))

set_option maxHeartbeats 4000000 in
/-- The body takes a device from `before` to `after`. -/
theorem body_run {Q : PUnit → sProp (MF F)} :
    iprop(env m K ∗ before m c ∗ (after m c -∗ Q ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  rw [cc0_body_eq_skeleton]; unfold cc0_body_skel
  rw [k0_part8_eq_skeleton]; unfold k0_part8_skel
  simp only [Prog.lift, Prog.bind_op, Prog.bind_ret, Prog.pure_eq_ret, wp_bind]
  unfold before
  iintro ⟨#He, ⟨Ha0, Ha1, Ha2, Ha3, Ha4, Ha5, Ha6, Ha7, Ha8, Ha9, Ha10, Ha11, Ha12, Ht1, Ht2, Ht3, Ht4, Ht5, Ht11, Ht12, Ht0, Ht6, Ht7, Ht8, Ht9, Ht10, Hc0, Hc6, Hc7, Hc8, Hc9, Hc10, Hw1, Hw2, Hu1, Hu2, Hlo, Hws, Hcs0, Hcs1, Hl, Ho, Hx, Hr, Hout⟩, Hk⟩
  iapply (part1 m K c)
  isplitr; · iexact He
  isplitl [Hw1]; · iexact Hw1
  isplitl [Hw2]; · iexact Hw2
  isplitl [Hu1]; · iexact Hu1
  isplitl [Hu2]; · iexact Hu2
  isplitl [Ht11]; · iexact Ht11
  isplitl [Ht12]; · iexact Ht12
  isplitl [Hl]; · iexact Hl
  isplitl [Ho]; · iexact Ho
  isplitl [Ht0]; · iexact Ht0
  isplitl [Hc0]; · iexact Hc0
  isplitl [Ha0]; · iexact Ha0
  isplitl [Hx]; · iexact Hx
  isplitl [Hlo]; · iexact Hlo
  iintro %v5 %v6 ⟨Hc11, Hc12, Ho, Ha0, Hl, Hx, Hlo⟩
  dsimp only
  unfold landing
  icases Hl with ⟨Hrp', Hhi', Hwr', Hbr0', Hbr1'⟩
  iapply (part2 m K c v5 v6)
  isplitr; · iexact He
  isplitl [Hlo]; · iexact Hlo
  isplitl [Hhi']; · iexact Hhi'
  isplitl [Hr]; · iexact Hr
  isplitl [Hrp']; · iexact Hrp'
  isplitl [Ho]; · iexact Ho
  isplitl [Ht2]; · iexact Ht2
  isplitl [Ht7]; · iexact Ht7
  isplitl [Ht1]; · iexact Ht1
  isplitl [Ht6]; · iexact Ht6
  isplitl [Hc11]; · iexact Hc11
  isplitl [Hc12]; · iexact Hc12
  isplitl [Ha11]; · iexact Ha11
  isplitl [Ha12]; · iexact Ha12
  iintro ⟨Hc2, Hc1, Ho, Ha11, Ha12, Hu1, Hw1, Hu2, Hw2⟩
  dsimp only
  iapply (part3 m K c v5 v6 _ _ _ _)
  isplitr; · iexact He
  isplitl [Ho]; · iexact Ho
  isplitl [Hc1]; · iexact Hc1
  isplitl [Ha1]; · iexact Ha1
  isplitl [Hc6]; · iexact Hc6
  isplitl [Ha6]; · iexact Ha6
  isplitl [Hx]; · iexact Hx
  iintro ⟨Ho, Ha1, Ha6, Hr, Hrp, Hx⟩
  dsimp only
  iapply (part4 m K c v5 v6 _ _)
  isplitr; · iexact He
  isplitl [Hws]; · iexact Hws
  isplitl [Hwr']; · iexact Hwr'
  isplitl [Ho]; · iexact Ho
  isplitl [Ht3]; · iexact Ht3
  isplitl [Ht8]; · iexact Ht8
  isplitl [Hc2]; · iexact Hc2
  isplitl [Ha2]; · iexact Ha2
  iintro ⟨Hc3, Ho, Ha2, Hlo⟩
  iapply (part5 m K c v5 v6)
  isplitr; · iexact He
  isplitl [Ho]; · iexact Ho
  isplitl [Hc7]; · iexact Hc7
  isplitl [Ha7]; · iexact Ha7
  isplitl [Hc3]; · iexact Hc3
  isplitl [Ha3]; · iexact Ha3
  isplitl [Hc8]; · iexact Hc8
  isplitl [Ha8]; · iexact Ha8
  isplitl [Hcs0]; · iexact Hcs0
  iintro ⟨Ho, Ha7, Ha3, Ha8, Hhi, Hws, Hwr, Hcs0⟩
  iapply (part6 m K c v5 v6)
  isplitr; · iexact He
  isplitl [Hcs0]; · iexact Hcs0
  isplitl [Hbr0']; · iexact Hbr0'
  isplitl [Ho]; · iexact Ho
  isplitl [Ht4]; · iexact Ht4
  isplitl [Ht9]; · iexact Ht9
  isplitl [Hhi]; · iexact Hhi
  isplitl [Hcs1]; · iexact Hcs1
  iintro ⟨Hc4, Ho, Hhi, Hcs1⟩
  iapply (part7 m K c v5 v6 _ _)
  isplitr; · iexact He
  isplitl [Hcs1]; · iexact Hcs1
  isplitl [Hbr1']; · iexact Hbr1'
  isplitl [Ho]; · iexact Ho
  isplitl [Ht5]; · iexact Ht5
  isplitl [Ht10]; · iexact Ht10
  isplitl [Hc4]; · iexact Hc4
  isplitl [Ha4]; · iexact Ha4
  isplitl [Hc9]; · iexact Hc9
  isplitl [Ha9]; · iexact Ha9
  iintro ⟨Hc5, Ho, Ha4, Ha9, Hcs0, Hbr0⟩
  iapply (ld_br0 c) $$ Hbr0; iintro Hbr0
  icases Hout with ⟨%X, Hout⟩
  iapply (ld_out c) $$ Hout; iintro %_ Hout
  iapply (st_out0 c m) $$ Hout; iintro Hout
  iapply (wp_await m K c 5 (wpE_waitDma2_eq 𝒱₀ (c : Thread nD τ) none Set.univ (src := br1M) (dst := cs1M)) rfl rfl (n := 0) (by decide) (above_zero c 0) (ownAt c cs1M fullShare (flat (ch1 m c))) rfl) $$ [Hc5 Ho Ha5]
  · isplitr; · iexact He
    isplitl [Hc5]; · iexact Hc5
    isplitl [Ho]; · iexact Ho
    iexact Ha5
  iintro ⟨Ho, Ha5, Hcs1⟩
  iapply (wp_await m K c 10 (wpE_waitDma2_eq 𝒱₀ (c : Thread nD τ) none Set.univ (src := cs1M) (dst := br1M)) rfl rfl (n := 4) (by decide) (above_zero c 4) (ownAt c br1M fullShare (flat (ch1 m (peer c)))) rfl) $$ [Hc10 Ho Ha10]
  · isplitr; · iexact He
    isplitl [Hc10]; · iexact Hc10
    isplitl [Ho]; · iexact Ho
    iexact Ha10
  iintro ⟨Ho, Ha10, Hbr1⟩
  iapply (ld_br1 c) $$ Hbr1; iintro Hbr1
  rw [wp_ret]; imodintro; dsimp only
  iapply (ld_half c m) $$ Hout; iintro %_ Hout
  iapply (st_out1 c m) $$ Hout; iintro Hout
  rw [wp_ret]; imodintro
  iapply Hk; unfold after
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Hw1]; · iexact Hw1
  isplitl [Hw2]; · iexact Hw2
  isplitl [Hu1]; · iexact Hu1
  isplitl [Hu2]; · iexact Hu2
  isplitl [Hlo]; · iexact Hlo
  isplitl [Hhi]; · iexact Hhi
  isplitl [Hrp]; · iexact Hrp
  isplitl [Hws]; · iexact Hws
  isplitl [Hwr]; · iexact Hwr
  isplitl [Hcs0]; · iexact Hcs0
  isplitl [Hcs1]; · iexact Hcs1
  isplitl [Hbr0]; · iexact Hbr0
  isplitl [Hbr1]; · iexact Hbr1
  isplitl [Ho]; · iexact Ho
  isplitl [Hx]; · iexact Hx
  isplitl [Hr]; · iexact Hr
  iexact Hout

end Cert.KernelIdeal.Exchange

end
-- ==== Proof.Alloc.lean ====
/-
What the launch hands out: the invariants of the thirteen semaphores of every device, each device's position at its own
semaphores, the token of every message at the device that sends it, and the credit for every message at the device that
receives it.
-/
module

public import proofs.«01_k».proof.Proof.Body

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ)

/-- The semaphores the kernel allocates: all but the barrier. -/
abbrev osem : Fin 12 → SemLoc sig := fun k => csem k.succ

theorem ownSemFacts : Pipeline.OwnSemFacts cfg0.spec osem := by decide

/-- Different devices and semaphores have different cells. -/
theorem kcell_injective : Function.Injective fun ck : Dev nD × Fin 13 => kcell ck.1 ck.2 := fun a b h =>
  Prod.ext (congrArg (fun g : GSem nD τ sig => g.1.1) h) (csem_injective (congrArg Prod.snd h))

/-- Every semaphore of every device. -/
def cells : Finset (GSem nD τ sig) := Finset.univ.map ⟨fun ck : Dev nD × Fin 13 => kcell ck.1 ck.2, kcell_injective⟩
/-- One token for every semaphore: its one message. -/
def tokens : Finset (GSem nD τ sig × ℕ × Unit) :=
  Finset.univ.map ⟨fun ck : Dev nD × Fin 13 => (kcell ck.1 ck.2, 0, ()), fun _ _ h => kcell_injective (congrArg Prod.fst h)⟩

/-- The ghost state of the launch. -/
def u₀ : UU := (initOf (Pipeline.cells cfgs cellOf_inj) (Pipeline.launchToks cfgs cellOf_inj), initOf cells tokens)

/-- The device that sends the message on semaphore `k` of device `c`. -/
def giver (c : Dev nD) (k : Fin 13) : Dev nD := if k = 0 ∨ (6 ≤ k ∧ k ≤ 10) then peer c else c

/-- Giving is mutual. -/
theorem giver_giver (c : Dev nD) (k : Fin 13) : giver (giver c k) k = c := by
  unfold giver; split
  · exact peer_peer c
  · rfl

/-- Each token to the device that uses it. -/
def deal : Dev nD × Fin 13 ≃ Dev nD × Fin 13 where
  toFun ck := (giver ck.1 ck.2, ck.2)
  invFun ck := (giver ck.1 ck.2, ck.2)
  left_inv ck := Prod.ext (giver_giver _ _) rfl
  right_inv ck := Prod.ext (giver_giver _ _) rfl

/-- A product over the thirteen semaphores, written out. -/
theorem thirteen (Φ : Fin 13 → sProp (MF F)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A device's share of the ghost state, as minted. -/
def mint (c : Dev nD) : sProp (MF F) :=
  iprop((bigSep Finset.univ fun k : Fin 13 => roundState ER (sched m) (kcell c k) 0)
    ∗ (bigSep Finset.univ fun k : Fin 13 => reached ER (kcell c k) 0)
    ∗ (bigSep Finset.univ fun k : Fin 13 => at0 (F := F) c k)
    ∗ (bigSep Finset.univ fun k : Fin 13 => tok (F := F) c k))

/-- Every cell starts in its first round, with its token. -/
theorem mint_all : BI.own (ER (initOf cells tokens)) ⊢ (|==> bigSep Finset.univ (mint m) : sProp (MF F)) := by
  have hX (Φ : GSem nD τ sig → sProp (MF F)) : bigSep cells Φ = bigSep Finset.univ fun c : Dev nD => bigSep Finset.univ fun k : Fin 13 => Φ (kcell c k) := by
    unfold cells; rw [bigSep_map, bigSep_univ_prod]; rfl
  have hT : bigSep tokens (fun x => (dutyTok ER x.1 x.2.1 x.2.2 : sProp (MF F))) = bigSep Finset.univ fun c : Dev nD => bigSep Finset.univ fun k : Fin 13 => tok c k := by
    unfold tokens; rw [bigSep_map, bigSep_univ_prod]; rfl
  have hG : (bigSep Finset.univ (mint m) : sProp (MF F)) = iprop((bigSep cells fun g => roundState ER (sched m) g 0) ∗ (bigSep cells fun g => reached ER g 0)
      ∗ (bigSep cells fun g => atPos ER g 0 ∅ 0) ∗ bigSep tokens fun x => dutyTok ER x.1 x.2.1 x.2.2) := by
    rw [hX, hX, hX, hT, ← bigSep_sep', ← bigSep_sep', ← bigSep_sep']; rfl
  rw [hG]
  exact Rounds.fund ER (sched m) cells tokens

/-- The counters a device holds at zero when it starts are those of the thirteen semaphores. -/
theorem counters (c : Dev nD) : iprop(Pipeline.ownSems0 (Ix := Unit) (Name := ℕ) (U := UU) (Lvl := ℕ) (Val := Elt F) (τ := τ) osem c ∗ unscopedSems0 c)
    = (bigSep Finset.univ fun k : Fin 13 => semVal (kcell c k) 0 : sProp (MF F)) := by
  rw [Pipeline.ownSems0_eq_of_list c osem [0, 1, 2, 3, 4, 5, 6, 7, 8, 9, 10, 11] (by decide) (by decide), thirteen]
  unfold unscopedSems0; rw [bigSep_eq_bigSepL_of_eq [SemLoc.reg barS] (by decide) (by decide)]
  exact sProp.ext fun x => ⟨fun h => BI.sep_comm x h, fun h => BI.sep_comm x h⟩

/-- What the devices know of one another's semaphores. -/
def known (K : Dev nD × Fin 13 → ℕ) : sProp (MF F) :=
  iprop((bigSep Finset.univ fun ck : Dev nD × Fin 13 => cellInv ER (sched m) (K ck) (kcell ck.1 ck.2))
    ∗ (bigSep Finset.univ fun ck : Dev nD × Fin 13 => reached ER (kcell ck.1 ck.2) 0))

instance known_persistent (K : Dev nD × Fin 13 → ℕ) : BI.Persistent (known m K) := by unfold known; infer_instance

/-- What device `c` starts with: the records, its positions, and the tokens of the messages it sends. -/
def dealt (c : Dev nD) : sProp (MF F) :=
  iprop(∃ K, known m K ∗ (bigSep Finset.univ fun k : Fin 13 => at0 (F := F) c k) ∗ (bigSep Finset.univ fun k : Fin 13 => tok (F := F) (giver c k) k))

/-- One device's invariants, from its counters and its round states. -/
theorem invariants (c : Dev nD) :
    iprop(Pipeline.ownSems0 (Ix := Unit) (Name := ℕ) (U := UU) (Lvl := ℕ) (Val := Elt F) (τ := τ) osem c ∗ unscopedSems0 c ∗ mint m c)
      ⊢ |={Set.univ}=> iprop((bigSep Finset.univ fun k : Fin 13 => iprop(∃ κ : ℕ, cellInv ER (sched m) κ (kcell c k)))
        ∗ (bigSep Finset.univ fun k : Fin 13 => reached ER (kcell c k) 0)
        ∗ (bigSep Finset.univ fun k : Fin 13 => at0 (F := F) c k)
        ∗ (bigSep Finset.univ fun k : Fin 13 => tok (F := F) c k)) := by
  unfold mint
  iintro ⟨Ho, Hu, Hst, Hrest⟩
  ihave Hv := (Entails.of_eq (counters (F := F) c)) $$ [Ho Hu]
  · isplitl [Ho] <;> iassumption
  imod (show iprop((bigSep Finset.univ fun k : Fin 13 => semVal (kcell c k) 0) ∗ bigSep Finset.univ fun k : Fin 13 => roundState ER (sched m) (kcell c k) 0)
      ⊢ (|={Set.univ}=> bigSep Finset.univ fun k : Fin 13 => iprop(∃ κ : ℕ, cellInv ER (sched m) κ (kcell c k)) : sProp (MF F)) from by
        rw [← bigSep_sep']
        exact (bigSep_mono fun k _ => (Rounds.body_intro ER (sched m) (kcell c k)).trans inv_alloc).trans (bigSep_fupd _ _)) $$ [Hv Hst] with Hinv
  · isplitl [Hv] <;> iassumption
  imodintro
  isplitl [Hinv]; · iexact Hinv
  iexact Hrest

/-- A persistent fact goes along with every term. -/
theorem spread {I : Type} [DecidableEq I] {S : Finset I} {R : sProp (MF F)} [BI.Persistent R] {Φ Ψ : I → sProp (MF F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Each token goes to the device that pays it. -/
theorem deal_out :
    (bigSep Finset.univ fun c : Dev nD => iprop((bigSep Finset.univ fun k : Fin 13 => iprop(∃ κ : ℕ, cellInv ER (sched m) κ (kcell c k)))
        ∗ (bigSep Finset.univ fun k : Fin 13 => reached ER (kcell c k) 0)
        ∗ (bigSep Finset.univ fun k : Fin 13 => at0 (F := F) c k)
        ∗ (bigSep Finset.univ fun k : Fin 13 => tok (F := F) c k)) : sProp (MF F))
      ⊢ bigSep Finset.univ (dealt m) := by
  rw [bigSep_sep', bigSep_sep', bigSep_sep',
    ← bigSep_univ_prod (fun ck : Dev nD × Fin 13 => iprop(∃ κ : ℕ, cellInv ER (sched m) κ (kcell ck.1 ck.2))),
    ← bigSep_univ_prod (fun ck : Dev nD × Fin 13 => (reached ER (kcell ck.1 ck.2) 0 : sProp (MF F))),
    ← bigSep_univ_prod (fun ck : Dev nD × Fin 13 => (tok (F := F) ck.1 ck.2 : sProp (MF F))),
    bigSep_univ_equiv deal (fun ck : Dev nD × Fin 13 => (tok (F := F) ck.1 ck.2 : sProp (MF F))),
    bigSep_univ_prod (fun ck : Dev nD × Fin 13 => (tok (F := F) (deal ck).1 (deal ck).2 : sProp (MF F)))]
  iintro ⟨HI, #HR, Hat, Htok⟩
  ihave HK := (BI.bigSep_exists_pi Finset.univ (fun (ck : Dev nD × Fin 13) (κ : ℕ) => (cellInv ER (sched m) κ (kcell ck.1 ck.2) : sProp (MF F)))) $$ HI
  icases HK with ⟨%K, #HI⟩
  iapply (spread (R := known m K) (Φ := fun c : Dev nD => iprop((bigSep Finset.univ fun k : Fin 13 => at0 (F := F) c k) ∗ (bigSep Finset.univ fun k : Fin 13 => tok (F := F) (giver c k) k)))
    (fun c _ => show _ ⊢ dealt m c from by unfold dealt; iintro H; iexists K; iexact H))
  isplitr
  · unfold known; isplitl; · iexact HI
    iexact HR
  · rw [bigSep_sep']
    isplitl [Hat]; · iexact Hat
    iexact Htok

/-- All devices' counters and ghost state become what each starts with. -/
theorem glob : (bigSep Finset.univ fun c => iprop(Pipeline.ownSems0 (Ix := Unit) (Name := ℕ) (U := UU) (Lvl := ℕ) (Val := Elt F) (τ := τ) osem c ∗ unscopedSems0 c ∗ mint m c) : sProp (MF F))
    ⊢ |={Set.univ}=> bigSep Finset.univ (dealt m) :=
  ((bigSep_mono fun c _ => invariants m c).trans (bigSep_fupd _ _)).trans (BI.fupd_mono (deal_out m))

/-! ## Credit -/

/-- The semaphores a partner's message arrives on. -/
abbrev inc : Finset (Fin 13) := {0, 6, 7, 8, 9, 10}

/-- One debt to a partner, read at a cell. -/
theorem tally_at (d c : Dev nD) (j k : Fin 13) (a : ℕ) :
    (tallyAt (kcell (peer d) j) () a : CellTallies nD τ sig Unit) (kcell c k) () = if d = peer c ∧ k = j then a else 0 := by
  rw [tallyAt_apply]
  refine if_congr ⟨fun ⟨h, _⟩ => ?_, fun ⟨h, h'⟩ => ?_⟩ rfl rfl
  · have := @kcell_injective (c, k) (peer d, j) h
    have h1 := congrArg Prod.fst this; have h2 := congrArg Prod.snd this
    exact ⟨by rw [show c = peer d from h1, peer_peer], h2⟩
  · subst h h'; rw [peer_peer]; exact ⟨rfl, rfl⟩

/-- What a device owes to a cell. -/
theorem owed_at (d c : Dev nD) (k : Fin 13) (hk : k ∈ inc) : oweAll d (kcell c k) () = if d = peer c then amt k else 0 := by
  unfold oweAll owe1 owe0 owe2 owe3 owe4
  simp only [Pi.add_apply, Finsupp.add_apply]
  rw [tally_at, tally_at, tally_at, tally_at, tally_at, tally_at]
  by_cases h : d = peer c
  · simp only [h, _root_.true_and, if_true]; clear h; revert k; decide
  · simp only [h, _root_.false_and, if_false]

/-- What a cell is owed at the launch. -/
theorem credit_at (c : Dev nD) (k : Fin 13) (hk : k ∈ inc) :
    tallyOn (kcell c k) (launchCredit (Pipeline.owing oweAll) 0 (kcell c k)) = (tallyAt (kcell c k) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (peer c) fun _ => amt k, if_pos (Finset.mem_univ _)]

/-- The launch gives each device the credit of its partner's six messages. -/
theorem credits (c : Dev nD) : (Pipeline.launchCred oweAll c : sProp (MF F))
    ⊢ iprop(crd c 0 ∗ crd c 6 ∗ crd c 7 ∗ crd c 8 ∗ crd c 9 ∗ crd c 10) := by
  unfold Pipeline.launchCred
  refine (bigSep_subset (t := inc.map ⟨csem, csem_injective⟩) (Finset.subset_univ _)).trans ?_
  rw [bigSep_map]
  refine (Entails.of_eq (bigSep_congr (Ψ := fun k => (crd (F := F) c k : sProp (MF F))) fun k hk => congrArg cred (credit_at c k hk))).trans ?_
  rw [
    bigSep_eq_bigSepL_of_eq [0, 6, 7, 8, 9, 10] (by decide) (by decide)]
  rfl

/-! ## Closing the semaphores -/

/-- After its thirteen messages a device's semaphores are closed, at zero. -/
theorem close_all (K : Dev nD × Fin 13 → ℕ) (c : Dev nD) : iprop(env m K ∗ bigSep Finset.univ fun k : Fin 13 => at1 (F := F) c k)
    ⊢ |={Set.univ}=> (bigSep Finset.univ fun k : Fin 13 => semVal (kcell c k) 0 : sProp (MF F)) :=
  (spread fun k _ => close m K c k).trans (bigSep_fupd _ _)

end Cert.KernelIdeal.Exchange

end
-- ==== Proof.Run.lean ====
/-
The whole run, from any memory and for any float values: every execution of the four kernels ends; the result arrays hold
`outAt`, the arguments what they held, and every semaphore counter is zero.
-/
module

public import proofs.«01_k».proof.Proof.Alloc
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [Named F]
variable (m : (ℓ : Loc nD τ sig) → Buf (Elt F) ℓ) (ρ : Dev nD → PrngReg)

/-- What a device's kernel is given besides its windows and its scratch. -/
def start (c : Dev nD) : sProp (MF F) :=
  iprop((∃ K, env m K ∗ (bigSep Finset.univ fun k : Fin 13 => at0 (F := F) c k) ∗ (bigSep Finset.univ fun k : Fin 13 => tok (F := F) (giver c k) k))
    ∗ (crd c 0 ∗ crd c 6 ∗ crd c 7 ∗ crd c 8 ∗ crd c 9 ∗ crd c 10)
    ∗ ownAt c w1M fullShare (w1 m c) ∗ ownAt c w2M fullShare (w2 m c))

/-- A device before its kernel: that, and scratch at any contents. -/
def phi0 (c : Dev nD) : sProp (MF F) := iprop(start m c ∗ Pipeline.scopedRest spec0 c)
/-- A device after its kernel: its semaphores at zero, the weights, and its scratch back. -/
def phi1 (c : Dev nD) : sProp (MF F) :=
  iprop((bigSep Finset.univ fun k : Fin 13 => semVal (kcell c k) 0)
    ∗ (ownAt c w1M fullShare (w1 m c) ∗ ownAt c w2M fullShare (w2 m c)) ∗ Pipeline.scopedRest spec0 c)

/-- What the pipeline around the kernel transfers and the body leaves in its windows. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => rt m c
    | ⟨2, _⟩ => outAt m c
  Φ t := match t with
    | ⟨0, _⟩ => phi0 m c
    | ⟨_ + 1, _⟩ => phi1 m c
  q _ := fullShare
  owed t := match t with
    | ⟨0, _⟩ => oweAll c
    | ⟨_ + 1, _⟩ => 0

/-! ## The body, as the pipeline asks for it -/

/-- A whole scratch buffer at any contents is the buffer's memref at any contents. -/
theorem whole_any (c : Dev nD) (b : Ref sig .tc) :
    (iprop(∃ f : Buf (Elt F) ((c : Thread nD τ).loc b), ((c : Thread nD τ).loc b) ↦{fullShare} f) : sProp (MF F)) ⊢ iprop(∃ X, ownAt c (Memref.whole b) fullShare X) := by
  iintro ⟨%f, H⟩; iexists f; unfold ownAt; rw [owns_whole]; iexact H
/-- An array held with known contents is held with some. -/
theorem any_whole (c : Dev nD) (b : Ref sig .tc) (X : b.ty.Contents (Elt F)) :
    ownAt c (Memref.whole b) fullShare X ⊢ (iprop(∃ f : Buf (Elt F) ((c : Thread nD τ).loc b), ((c : Thread nD τ).loc b) ↦{fullShare} f) : sProp (MF F)) := by
  refine (Entails.of_eq (owns_whole (c : Thread nD τ) b fullShare X)).trans ?_
  iintro H; iexists X; iexact H

/-- What a device holds when its body starts is what `body_run` asks for. -/
theorem enter (K : Dev nD × Fin 13 → ℕ) (c : Dev nD) :
    iprop(((bigSep Finset.univ fun k : Fin 13 => at0 (F := F) c k) ∗ (bigSep Finset.univ fun k : Fin 13 => tok (F := F) (giver c k) k))
      ∗ (crd c 0 ∗ crd c 6 ∗ crd c 7 ∗ crd c 8 ∗ crd c 9 ∗ crd c 10)
      ∗ (ownAt c w1M fullShare (w1 m c) ∗ ownAt c w2M fullShare (w2 m c)) ∗ Pipeline.scopedRest spec0 c
      ∗ debt c (oweAll c) ∗ ownAt c xM fullShare (xs m c) ∗ ownAt c rM fullShare (rt m c) ∗ (∃ X, ownAt c oM fullShare X))
      ⊢ before m c := by
  rw [thirteen, thirteen, scopedRest0_eq]
  iintro ⟨⟨⟨Ha0, Ha1, Ha2, Ha3, Ha4, Ha5, Ha6, Ha7, Ha8, Ha9, Ha10, Ha11, Ha12⟩, Ht0, Ht1, Ht2, Ht3, Ht4, Ht5, Ht6, Ht7, Ht8, Ht9, Ht10, Ht11, Ht12⟩,
    ⟨Hc0, Hc6, Hc7, Hc8, Hc9, Hc10⟩, ⟨Hw1, Hw2⟩, ⟨S0, S1, S2, S3, S4, S5, S6, S7⟩, Ho, Hx, Hr, Hout⟩
  ihave S0 := (whole_any c cc0_scratch0) $$ S0
  ihave S1 := (whole_any c cc0_scratch1) $$ S1
  ihave S2 := (cut_xf c) $$ S2
  icases S2 with ⟨Slo, Shi⟩
  ihave S3 := (whole_any c cc0_scratch3) $$ S3
  ihave S4 := (whole_any c cc0_scratch4) $$ S4
  ihave S5 := (whole_any c cc0_scratch5) $$ S5
  ihave S6 := (cut_cs c) $$ S6
  icases S6 with ⟨Scs0, Scs1⟩
  ihave S7 := (cut_br c) $$ S7
  icases S7 with ⟨Sbr0, Sbr1⟩
  unfold before landing
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ht1]; · iexact Ht1
  isplitl [Ht2]; · iexact Ht2
  isplitl [Ht3]; · iexact Ht3
  isplitl [Ht4]; · iexact Ht4
  isplitl [Ht5]; · iexact Ht5
  isplitl [Ht11]; · iexact Ht11
  isplitl [Ht12]; · iexact Ht12
  isplitl [Ht0]; · iexact Ht0
  isplitl [Ht6]; · iexact Ht6
  isplitl [Ht7]; · iexact Ht7
  isplitl [Ht8]; · iexact Ht8
  isplitl [Ht9]; · iexact Ht9
  isplitl [Ht10]; · iexact Ht10
  isplitl [Hc0]; · iexact Hc0
  isplitl [Hc6]; · iexact Hc6
  isplitl [Hc7]; · iexact Hc7
  isplitl [Hc8]; · iexact Hc8
  isplitl [Hc9]; · iexact Hc9
  isplitl [Hc10]; · iexact Hc10
  isplitl [Hw1]; · iexact Hw1
  isplitl [Hw2]; · iexact Hw2
  isplitl [S0]; · iexact S0
  isplitl [S1]; · iexact S1
  isplitl [Slo]; · iexact Slo
  isplitl [S4]; · iexact S4
  isplitl [Scs0]; · iexact Scs0
  isplitl [Scs1]; · iexact Scs1
  isplitl [S3 Shi S5 Sbr0 Sbr1]
  · isplitl [S3]; · iexact S3
    isplitl [Shi]; · iexact Shi
    isplitl [S5]; · iexact S5
    isplitl [Sbr0]; · iexact Sbr0
    iexact Sbr1
  isplitl [Ho]; · iexact Ho
  isplitl [Hx]; · iexact Hx
  isplitl [Hr]; · iexact Hr
  iexact Hout

/-- What a device holds when its body ends is what the launch takes back. -/
theorem leave (K : Dev nD × Fin 13 → ℕ) (c : Dev nD) : iprop(env m K ∗ after m c)
    ⊢ |={Set.univ}=> iprop(phi1 m c ∗ debt c 0 ∗ ownAt c xM fullShare (xs m c) ∗ ownAt c rM fullShare (rt m c) ∗ ownAt c oM fullShare (outAt m c)) := by
  unfold after phi1
  rw [scopedRest0_eq]
  iintro ⟨#He, Ha0, Ha1, Ha2, Ha3, Ha4, Ha5, Ha6, Ha7, Ha8, Ha9, Ha10, Ha11, Ha12, Hw1, Hw2, S0, S1, Slo, Shi, S3, S4, S5, Scs0, Scs1, Sbr0, Sbr1, Ho, Hx, Hr, Hout⟩
  imod (close_all m K c) $$ [Ha0 Ha1 Ha2 Ha3 Ha4 Ha5 Ha6 Ha7 Ha8 Ha9 Ha10 Ha11 Ha12] with Hv
  · isplitr; · iexact He
    rw [thirteen]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Ha12
  ihave S0 := (any_whole c cc0_scratch0 _) $$ S0
  ihave S1 := (any_whole c cc0_scratch1 _) $$ S1
  ihave S2 := (join_xf c _ _) $$ [Slo Shi]
  · isplitl [Slo] <;> iassumption
  ihave S3 := (any_whole c cc0_scratch3 _) $$ S3
  ihave S4 := (any_whole c cc0_scratch4 _) $$ S4
  ihave S5 := (any_whole c cc0_scratch5 _) $$ S5
  ihave S6 := (join_cs c _ _) $$ [Scs0 Scs1]
  · isplitl [Scs0] <;> iassumption
  ihave S7 := (join_br c _ _) $$ [Sbr0 Sbr1]
  · isplitl [Sbr0] <;> iassumption
  imodintro
  isplitl [Hv Hw1 Hw2 S0 S1 S2 S3 S4 S5 S6 S7]
  · isplitl [Hv]; · iexact Hv
    isplitl [Hw1 Hw2]
    · isplitl [Hw1]; · iexact Hw1
      iexact Hw2
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [Hx]; · iexact Hx
  isplitl [Hr]; · iexact Hr
  iexact Hout

/-- A product over the three windows. -/
theorem three (Φ : Fin cfg0.W → sProp (MF F)) : bigSep Finset.univ Φ = iprop(Φ (0 : Fin 3) ∗ Φ (1 : Fin 3) ∗ Φ (2 : Fin 3)) := bigSep_W0 Φ

/-- What the body is given. -/
def obligPre (c : Dev nD) : sProp (MF F) :=
  iprop(phi0 m c ∗ (dats m ρ 0 c).owesAt () t0_0.castSucc
    ∗ (∃ d, ownAt c xM fullShare ((dats m ρ 0 c).before (0 : Fin 3) t0_0 d))
    ∗ (∃ d, ownAt c rM fullShare ((dats m ρ 0 c).before (1 : Fin 3) t0_0 d))
    ∗ (∃ d, ownAt c oM fullShare ((dats m ρ 0 c).before (2 : Fin 3) t0_0 d)))

/-- What the body leaves. -/
def obligPost (c : Dev nD) : sProp (MF F) :=
  iprop(phi1 m c ∗ (dats m ρ 0 c).owesAt () t0_0.succ
    ∗ ownAt c xM fullShare (xs m c) ∗ ownAt c rM fullShare (rt m c) ∗ ownAt c oM fullShare (outAt m c))

/-- The first window holds the tokens, -/
theorem before_x (c : Dev nD) (d) : (dats m ρ 0 c).before (0 : Fin 3) t0_0 d = xs m c := by
  unfold Dat.before; rw [if_pos (fetch0_0 t0_0)]; rfl
/-- and the second the router. -/
theorem before_r (c : Dev nD) (d) : (dats m ρ 0 c).before (1 : Fin 3) t0_0 d = rt m c := by
  unfold Dat.before; rw [if_pos (fetch0_1 t0_0)]; rfl

set_option maxHeartbeats 2000000 in
theorem body_obligation (c : Dev nD) : BodyObligation (dats (F := F) m ρ 0 c) (defs₀ (F := F)) 𝒱₀ () Set.univ := fun t => by
  rw [fin_N0 t]
  rw [three, three]
  show obligPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) (fun _ => obligPost m ρ c)
  unfold obligPre phi0 start
  iintro ⟨⟨⟨⟨%K, #He, Hg⟩, Hc, Hw⟩, Hs⟩, Ho, ⟨%dx, Hx⟩, ⟨%dr, Hr⟩, ⟨%d, Hout⟩⟩
  rw [before_x, before_r]
  iapply wp_fupd
  iapply (body_run m K c)
  isplitr; · iexact He
  isplitl [Hg Hc Hw Hs Ho Hx Hr Hout]
  · iapply (enter m K c)
    isplitl [Hg]; · iexact Hg
    isplitl [Hc]; · iexact Hc
    isplitl [Hw]; · iexact Hw
    isplitl [Hs]; · iexact Hs
    isplitl [Ho]
    · unfold Dat.owesAt Pipeline.owesWithin debt
      icases Ho with ⟨%W, %hW, Ho⟩
      iexists W; iexact Ho
    isplitl [Hx]; · iexact Hx
    isplitl [Hr]; · iexact Hr
    iexists _; iexact Hout
  iintro H
  imod (leave m K c) $$ [H] with ⟨Hp, Ho, Hx, Hr, Hout⟩
  · isplitr; · iexact He
    iexact H
  imodintro
  unfold obligPost
  isplitl [Hp]; · iexact Hp
  isplitl [Ho]
  · unfold Dat.owesAt Pipeline.owesWithin debt
    icases Ho with ⟨%W, Ho⟩
    iexists W
    isplitr; · ipureintro; exact fun _ _ => Or.inl trivial
    iexact Ho
  isplitl [Hx]; · iexact Hx
  isplitl [Hr]; · iexact Hr
  iexact Hout

/-! ## The launch -/

/-- Every window is held whole. -/
theorem share_full (c : Dev nD) (w : Fin cfg0.W) : (dats m ρ 0 c).share w = fullShare := by unfold Dat.share; split <;> rfl

/-- What a device holds at the launch is what its kernel starts from. -/
theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ dealt m c)
      ⊢ |={Set.univ}=> iprop(start m c ∗ emp) := by
  rw [Pipeline.unscopedRestP_none]
  iintro ⟨Hu, #Hlev, Hcr, -, HG⟩
  ihave Hu := (Entails.of_eq (unscopedRest0_eq c fun b => m ((c : Thread nD τ).loc b))) $$ Hu
  ihave Hc := (credits (F := F) c) $$ Hcr
  icases Hu with ⟨H1, H2⟩
  unfold dealt known
  icases HG with ⟨%K, ⟨#HI, #HR⟩, HG⟩
  imodintro
  unfold start
  isplitl
  · isplitl [HG]
    · iexists K
      isplitr
      · unfold env
        isplitr; · iexact HI
        isplitr; · iexact HR
        iexact Hlev
      iexact HG
    isplitl [Hc]; · iexact Hc
    unfold ownAt; rw [owns_whole, owns_whole]
    isplitl [H1]; · iexact H1
    iexact H2
  · iempintro

/-- With its scratch memory, that is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl]
  unfold phi0
  iintro ⟨Hs, -, Hr⟩
  isplitl [Hs]; · iexact Hs
  iexact Hr

/-- What is left of a device when its kernel has ended. -/
def rest (c : Dev nD) : sProp (MF F) := iprop(unscopedSems0 c ∗ ownAt c w1M fullShare (w1 m c) ∗ ownAt c w2M fullShare (w2 m c))

/-- What holds after the body gives back the semaphores and the scratch memory. -/
theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = phi1 m c from rfl]
  unfold phi1 rest
  rw [← counters]
  iintro ⟨⟨Ho, Hu⟩, Hw, Hr⟩
  isplitl [Hu Hw]
  · isplitl [Hu] <;> iassumption
  isplitl [Ho]; · iexact Ho
  iexact Hr

/-- Every wait of the launch is below what is owed. -/
theorem waits (c : Dev nD) : (levAts L lv : sProp (MF F)) ⊢ Pipeline.cellsWaits cfgs (dats m ρ) () 0 c :=
  Pipeline.cellsWaits_intro cfgs (dats m ρ) () 0 c fun w s t => by
    have hl : lv ((c : Thread nD τ), SemLoc.dma ((cfg0.win w).sem s)) () ≤ 0 := by
      show (kidx (SemLoc.dma ((cfg0.win w).sem s))).elim 0 lvk ≤ 0
      revert w s; decide
    rcases t with ⟨_ | _, ht⟩
    · exact mayWait_of_above c (peer c) _ 0 hl (above_oweAll c 0 (by decide))
    · exact mayWait_of_above c (peer c) _ 0 hl (above_zero _ 0)

/-- What the run ends in: the windows' arrays at what the pipeline leaves, the weights as they were. -/
def End : MemSt nD τ sig (Elt F) → Prop := fun s =>
  ∀ c : Dev nD, (∀ w : Fin cfg0.W, s.mem ((cfg0.win w).arr.view.loc (c : Thread nD τ)) = (dats m ρ 0 c).arrAt w cfg0.N)
    ∧ s.mem ((c : Thread nD τ).loc main_arg2) = m ((c : Thread nD τ).loc main_arg2)
    ∧ s.mem ((c : Thread nD τ).loc main_arg3) = m ((c : Thread nD τ).loc main_arg3)

/-- What is left of a device tells its counters and its weights. -/
theorem read_rest (c : Dev nD) (s' : Phys nD τ sig (Elt F)) : iprop(rest m c ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2)
        ∧ s'.mem.mem ((c : Thread nD τ).loc main_arg3) = m ((c : Thread nD τ).loc main_arg3)⌝ ∗ (SI s' : sProp (MF F))) := by
  unfold rest ownAt
  rw [owns_whole, owns_whole]
  iintro ⟨⟨Hu, H1, H2⟩, -, HSI⟩
  icombine HSI H1 gives %h1
  icombine HSI H2 gives %h2
  imod (Pipeline.unscopedSems0_read (X := unscopedSems0 c) (c := c) fupd_intro s') $$ [Hu HSI] with ⟨%h0, HSI⟩
  · isplitl [Hu] <;> iassumption
  imodintro
  isplitr
  · ipureintro
    exact ⟨h0, funext fun i => h1 i (Finset.mem_univ i), funext fun i => h2 i (Finset.mem_univ i)⟩
  iexact HSI

set_option maxHeartbeats 1000000 in
theorem run_end : θ_run defs (onTc (τ := τ) (main (F := F))) (s₀ m ρ) (fun r => End m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0)
    (hshare := share_full m ρ) (hdistinct := winFacts0.arr_inj)
    (O₀ := oweAll) (howed₀ := fun _ => rfl) (howedN := fun _ => rfl)
    (L := L) (lv := lv) (hL := L_of_ne) (hwaits := waits m ρ)
    (G := mint m) (G' := dealt m) (u₀ := u₀)
    (hu₀ := by
      unfold u₀
      iintro Hu
      ihave H := (ownU_pair _ _) $$ Hu
      icases H with ⟨HP, HX⟩
      imod (mint_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
        ∧ s.mem ((c : Thread nD τ).loc main_arg2) = m ((c : Thread nD τ).loc main_arg2)
        ∧ s.mem ((c : Thread nD τ).loc main_arg3) = m ((c : Thread nD τ).loc main_arg3))
    (hY := read_rest m)
    (hQ := fun _ h hs => ⟨fun c => ⟨(h c).1, (h c).2.2.2⟩, sem_eq_zero hs fun c => (h c).2.2.1⟩)

end Cert.KernelIdeal.Exchange

end
-- ==== Proof.Frames.lean ====
/-
The run read at the arrays: the result is `outAt`, the arguments are unchanged, every counter is zero; and the claim of
each of the two programs that says so.
-/
module

public import proofs.«01_k».proof.Proof.Run
public import proofs.«01_k».proof.Defs
public import proofs.«01_k».proof.Proof.Gen.Kernel
public import Idealize.ShloMosaic.Lib.Pipeline.ValueKit.Geometry

@[expose] public section

set_option maxRecDepth 16384

noncomputable section

namespace Cert.KernelIdeal.Exchange

open Cert.KernelIdeal Cert.KernelIdeal.Gen
open Idealize.ShloMosaic
open Idealize.ShloMosaic.TcCoe
open Idealize.SL.Sem

variable {F : FTy → Type} [FloatOps F] [Named F]
variable (m : (ℓ : Loc nD τ sig) → Buf (Elt F) ℓ) (ρ : Dev nD → PrngReg)

/-- The one write-back leaves the result array at `outAt`. -/
theorem result_array (c : Dev nD) : (dats m ρ 0 c).arrAt (2 : Fin 3) cfg0.N = outAt m c :=
  (dats m ρ 0 c).arrAt_eq_of_after_last (2 : Fin 3) t0_0 (by decide +kernel) (outAt m c) fun j => rfl

/-- Every execution ends; the result arrays hold `outAt`, the arguments what they held, every counter zero. -/
theorem run_main : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (2 : Fin 3)).trans (result_array m ρ c),
      ((h.1 c).1 (0 : Fin 3)).trans ((dats m ρ 0 c).arrAt_in (0 : Fin 3) rfl _),
      ((h.1 c).1 (1 : Fin 3)).trans ((dats m ρ 0 c).arrAt_in (1 : Fin 3) rfl _),
      (h.1 c).2.1, (h.1 c).2.2⟩, h.2⟩) (run_end m ρ)

end Cert.KernelIdeal.Exchange

namespace Cert.Proof

open Idealize.ShloMosaic Idealize.SL.Sem

/-- The idealized kernel runs, leaves its arguments alone, and leaves every counter at zero. -/
theorem frame_ideal : Cert.quiescent_KernelIdeal := fun m ρ _ =>
  (θ_run Cert.KernelIdeal.defs _ _).mono (fun _ h => ⟨fun c => (h.1 c).2, h.2⟩) (Cert.KernelIdeal.Exchange.run_main m ρ)

/-- On machine floats a constant is its own bits. -/
local instance bits_named : Named Bits := ⟨fun _ _ {φ} b => FloatOps.ofBits φ b⟩

/-- The two programs have one body table, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- and so one table of calls. -/
theorem defs_eq : Cert.Kernel.defs (F := Bits) = Cert.KernelIdeal.defs (F := Bits) := by
  show Pipeline.defs Cert.Kernel.pcfgs (Cert.Kernel.defs₀ (F := Bits)) = Pipeline.defs Cert.KernelIdeal.pcfgs (Cert.KernelIdeal.defs₀ (F := Bits))
  rw [bodies_eq]; rfl

set_option maxHeartbeats 4000000 in
/-- The kernel as printed runs, leaves its arguments alone, and leaves every counter at zero. -/
theorem frame_kernel : Cert.quiescent_Kernel := fun m ρ _ => by
  rw [defs_eq]
  exact (θ_run (Cert.KernelIdeal.defs (F := Bits)) _ _).mono (fun _ h => ⟨fun c => (h.1 c).2, h.2⟩)
    (Cert.KernelIdeal.Exchange.run_main (F := Bits) m ρ)

/-- The mask constant, read as −∞. -/
theorem named_mask : Cert.preserves_Kernel_KernelIdeal :=
  IdealRules.named_const.statement _ _ _ _ _ rfl

end Cert.Proof

end
-- ==== Proof.Reference.lean ====
/-
The reference's run: it leaves its arguments alone, and has no counters.
-/
module

public import proofs.«01_k».proof.Defs
public import proofs.«01_k».proof.Proof.Gen.ReferenceIdeal.Run

@[expose] public section

set_option maxRecDepth 16384

noncomputable section

namespace Cert.Proof

open Idealize.ShloMosaic Idealize.SL.Sem

/-- The reference runs and leaves its arguments alone; it has no counter that could be left above zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.Proof

end
-- ==== Proof.Rows.lean ====
/-
The routing weights of one token, from its four gates: what the kernel computes, that the numbering of the experts does
not matter, and what the weights are where two gates stand above the others.
-/
module

public import Idealize.ShloMosaic.PureOps.Ideal.Laws

@[expose] public section

noncomputable section

namespace Cert.Rows

open Idealize.ShloMosaic

/-- The largest gate. -/
def first (g : Fin 4 → EReal) : EReal := Finset.univ.sup g

/-- The largest gate below the largest one, minus infinity if there is none. -/
def second (g : Fin 4 → EReal) : EReal := Finset.univ.sup fun e => if g e = first g then ⊥ else g e

/-- The exponential of a gate that is no smaller than `second`, and zero for the others. -/
def expo (g : Fin 4 → EReal) (e : Fin 4) : EReal := if second g ≤ g e then Ideal.exp (g e - first g) else 0

/-- The weight of expert `e`. -/
def weight (g : Fin 4 → EReal) (e : Fin 4) : EReal := Ideal.div (expo g e) (∑ f, expo g f)

/-! ## Another numbering of the experts -/

/-- A supremum does not depend on the numbering. -/
theorem sup_comp (σ : Equiv.Perm (Fin 4)) (g : Fin 4 → EReal) : Finset.univ.sup (fun e => g (σ e)) = Finset.univ.sup g :=
  le_antisymm (Finset.sup_le fun e _ => Finset.le_sup (f := g) (Finset.mem_univ (σ e)))
    (Finset.sup_le fun e _ => by
      have h := Finset.le_sup (f := fun e => g (σ e)) (Finset.mem_univ (σ.symm e))
      simpa using h)

/-- Nor does the largest gate, -/
theorem first_comp (σ : Equiv.Perm (Fin 4)) (g : Fin 4 → EReal) : first (fun e => g (σ e)) = first g := sup_comp σ g

/-- nor the next one, -/
theorem second_comp (σ : Equiv.Perm (Fin 4)) (g : Fin 4 → EReal) : second (fun e => g (σ e)) = second g := by
  unfold second
  rw [first_comp σ g]
  exact sup_comp σ fun e => if g e = first g then ⊥ else g e

/-- and the exponentials follow it. -/
theorem expo_comp (σ : Equiv.Perm (Fin 4)) (g : Fin 4 → EReal) (e : Fin 4) : expo (fun e => g (σ e)) e = expo g (σ e) := by
  unfold expo
  rw [first_comp σ g, second_comp σ g]

/-- With the experts numbered through `σ`, the weights are the same ones, numbered through `σ`. -/
theorem weight_comp (σ : Equiv.Perm (Fin 4)) (g : Fin 4 → EReal) (e : Fin 4) :
    weight (fun e => g (σ e)) e = weight g (σ e) := by
  unfold weight
  simp only [expo_comp σ g]
  rw [Equiv.sum_comp σ (expo g)]

/-! ## Where two gates stand above the others -/

/-- `a` has the largest gate, `b` the second, both with no equal; the largest is not infinite. -/
structure Tops (g : Fin 4 → EReal) (a b : Fin 4) : Prop where
  ne : b ≠ a
  top : ∀ e, e ≠ a → g e < g a
  next : ∀ e, e ≠ a → e ≠ b → g e < g b
  fin : g a < ⊤

variable {g : Fin 4 → EReal} {a b : Fin 4}

/-- The largest gate is that of `a`, -/
theorem Tops.first_eq (h : Tops g a b) : first g = g a :=
  le_antisymm (Finset.sup_le fun e _ => by
    rcases eq_or_ne e a with rfl | he
    · exact le_rfl
    · exact (h.top e he).le) (Finset.le_sup (f := g) (Finset.mem_univ a))

/-- and the next one that of `b`. -/
theorem Tops.second_eq (h : Tops g a b) : second g = g b := by
  unfold second
  rw [h.first_eq]
  refine le_antisymm (Finset.sup_le fun e _ => ?_) ?_
  · split
    · exact bot_le
    · rename_i he
      rcases eq_or_ne e b with rfl | hb
      · exact le_rfl
      · exact (h.next e (fun ha => he (ha ▸ rfl)) hb).le
  · have hb := Finset.le_sup (f := fun e => if g e = g a then ⊥ else g e) (Finset.mem_univ b)
    simpa only [if_neg (h.top b h.ne).ne] using hb

/-- The two exponentials the weights are quotients of. -/
theorem Tops.expo_eq (h : Tops g a b) (e : Fin 4) :
    expo g e = if e = a then Ideal.exp (g a - g a) else if e = b then Ideal.exp (g b - g a) else 0 := by
  unfold expo
  rw [h.first_eq, h.second_eq]
  by_cases ha : e = a
  · subst ha
    rw [if_pos (h.top b h.ne).le, if_pos rfl]
  · rw [if_neg ha]
    by_cases hb : e = b
    · subst hb
      rw [if_pos le_rfl, if_pos rfl]
    · rw [if_neg (not_le.mpr (h.next e ha hb)), if_neg hb]

/-- Their sum over the four experts is that of the two. -/
theorem Tops.sum_eq (h : Tops g a b) : ∑ f, expo g f = Ideal.exp (g a - g a) + Ideal.exp (g b - g a) := by
  have e2 : ∀ f, expo g f = (if f = a then Ideal.exp (g a - g a) else 0) + (if f = b then Ideal.exp (g b - g a) else 0) := fun f => by
    rw [h.expo_eq f]
    by_cases ha : f = a
    · rw [if_pos ha, if_pos ha, if_neg (fun hb => h.ne (hb.symm.trans ha)), add_zero]
    · rw [if_neg ha, if_neg ha, zero_add]
  simp only [e2]
  rw [Finset.sum_add_distrib, Finset.sum_ite_eq' Finset.univ a, Finset.sum_ite_eq' Finset.univ b]
  simp only [Finset.mem_univ, if_true]

/-- An exponential is not negative. -/
theorem exp_nonneg (x : EReal) : 0 ≤ Ideal.exp x := by
  induction x with
  | bot => exact le_rfl
  | top => exact le_top
  | coe r => exact EReal.coe_nonneg.mpr (Real.exp_pos r).le

/-- The sum is not zero: the largest gate gives one. -/
theorem Tops.sum_ne (h : Tops g a b) : Ideal.exp (g a - g a) + Ideal.exp (g b - g a) ≠ 0 := by
  have hlow : ⊥ < g a := lt_of_le_of_lt bot_le (h.top b h.ne)
  have h1 : Ideal.exp (g a - g a) = 1 := by
    rw [EReal.sub_self h.fin.ne hlow.ne']
    show ((Real.exp 0 : ℝ) : EReal) = 1
    rw [Real.exp_zero]; rfl
  rw [h1]
  have h2 : (1 : EReal) ≤ 1 + Ideal.exp (g b - g a) := le_add_of_nonneg_right (exp_nonneg _)
  exact (lt_of_lt_of_le zero_lt_one h2).ne'

/-- The others have weight zero. -/
theorem Tops.weight_else (h : Tops g a b) {e : Fin 4} (ha : e ≠ a) (hb : e ≠ b) : weight g e = 0 := by
  unfold weight
  rw [h.sum_eq, h.expo_eq e, if_neg ha, if_neg hb]
  unfold Ideal.div
  rw [if_neg h.sum_ne, zero_mul]

/-- The weight of the first expert, -/
theorem Tops.weight_top (h : Tops g a b) :
    weight g a = Ideal.div (Ideal.exp (g a - g a)) (Ideal.exp (g a - g a) + Ideal.exp (g b - g a)) := by
  unfold weight
  rw [h.sum_eq, h.expo_eq a, if_pos rfl]

/-- and of the second. -/
theorem Tops.weight_next (h : Tops g a b) :
    weight g b = Ideal.div (Ideal.exp (g b - g a)) (Ideal.exp (g a - g a) + Ideal.exp (g b - g a)) := by
  unfold weight
  rw [h.sum_eq, h.expo_eq b, if_neg h.ne, if_pos rfl]

/-- A sum over the experts, weighted, is that of the two. -/
theorem Tops.sum_weight (h : Tops g a b) (p : Fin 4 → EReal) :
    ∑ e, weight g e * p e = weight g a * p a + weight g b * p b := by
  have e2 : ∀ e, weight g e * p e = (if e = a then weight g a * p a else 0) + (if e = b then weight g b * p b else 0) := fun e => by
    by_cases ha : e = a
    · subst ha
      rw [if_pos rfl, if_neg (fun hb => h.ne hb.symm), add_zero]
    · by_cases hb : e = b
      · subst hb
        rw [if_neg ha, if_pos rfl, zero_add]
      · rw [if_neg ha, if_neg hb, h.weight_else ha hb, zero_mul, add_zero]
  rw [Finset.sum_congr rfl fun e _ => e2 e, Finset.sum_add_distrib, Finset.sum_ite_eq' Finset.univ a, Finset.sum_ite_eq' Finset.univ b]
  simp only [Finset.mem_univ, if_true]

end Cert.Rows

end
-- ==== Proof.Expert.lean ====
/-
What each of the kernel's payloads holds at one place, on the extended reals.
-/
module

public import proofs.«01_k».proof.Proof.Rows
public import proofs.«01_k».proof.Proof.Mesh
public import Idealize.ShloMosaic.Lib.Pointwise

@[expose] public section

set_option maxRecDepth 16384

noncomputable section

namespace Cert.KernelIdeal.Exchange

open Cert.KernelIdeal Cert.KernelIdeal.Gen
open Idealize.ShloMosaic
open Cert.Rows

/-- One expert on one token: row `x` of the tokens, the expert's first matrix, and one column of its second. -/
def expertAt (x : Fin 512 → EReal) (A : Fin 512 → Fin 1024 → EReal) (B : Fin 1024 → EReal) : EReal :=
  ∑ f, max (∑ k, x k * A k f) 0 * B f

/-- The device's first expert on its own tokens. -/
theorem pay8_at (X : Vec Ideal S256x512 .f32) (A : Vec Ideal S1x512x1024 .f32) (B : Vec Ideal S1x1024x512 .f32) (t : Fin 256) (col : Fin 512) :
    k0_pay8 (k0_pay2 X) A B (ix2 t col)
      = expertAt (fun k => X (ix2 t k)) (fun k f => A (ix3 0 k f)) (fun f => B (ix3 0 f col)) := by
  pointwise [k0_pay8, k0_pay2, k0_pay4, k0_pay6, expertAt]

/-- The device's second expert on its own tokens. -/
theorem pay9_at (X : Vec Ideal S256x512 .f32) (A : Vec Ideal S1x512x1024 .f32) (B : Vec Ideal S1x1024x512 .f32) (t : Fin 256) (col : Fin 512) :
    k0_pay9 (k0_pay2 X) (k0_pay5 A) (k0_pay7 B) (constant S256x1024 .f32 0x00000000#32) (ix2 t col)
      = expertAt (fun k => X (ix2 t k)) (fun k f => A (ix3 0 k f)) (fun f => B (ix3 0 f col)) := by
  pointwise [k0_pay9, k0_pay2, k0_pay5, k0_pay7, expertAt]

/-- The gates of a token, the device's own two columns first. -/
def gatesAt (R R' : Vec Ideal S512x2 .f32) (X : Vec Ideal S256x512 .f32) (t : Fin 256) (e : Fin 4) : EReal :=
  ∑ k : Fin 512, X (ix2 t k) * (if h : e.val < 2 then R (ix2 k ⟨e.val, h⟩) else R' (ix2 k ⟨e.val - 2, by omega⟩))

/-- The starting value of the maxima is minus infinity. -/
theorem ofBits_low : Ideal.ofBits .f32 0xFF800000#32 = ⊥ := by simp [Ideal.ofBits, Ideal.ieee]

/-- The value that covers the largest gate is minus infinity. -/
theorem mask_eq : (Named.named κ "mask" (φ := .f32) 0xF149F2CA#32 : Ideal .f32) = ⊥ := rfl

/-- The unnormalised weights. -/
theorem pay10_at (R R' : Vec Ideal S512x2 .f32) (X : Vec Ideal S256x512 .f32) (t : Fin 256) (e : Fin 4) :
    k0_pay10 R R' X (ix2 t e) = expo (gatesAt R R' X t) e := by
  pointwise [k0_pay10]
  rw [mask_eq, ofBits_low]
  rfl

/-- The weighted sum of the device's two experts on its own tokens. -/
theorem pay14_at (P Q : FVec Ideal S256x512 .f32) (E : FVec Ideal S256x4 .f32) (S : FVec Ideal S256 .f32) (t : Fin 256) (col : Fin 512) :
    k0_pay14 P Q E S (ix2 t col) = Ideal.div (E (ix2 t 0)) (S (ix1 t)) * P (ix2 t col) + Ideal.div (E (ix2 t 1)) (S (ix1 t)) * Q (ix2 t col) := by
  pointwise [k0_pay14, k0_pay12]

/-- The weights sent to the partner are those of the last two columns. -/
theorem pay13_at (E : FVec Ideal S256x4 .f32) (S : FVec Ideal S256 .f32) (t : Fin 256) (e : Fin 2) :
    k0_pay13 E S (ix2 t e) = Ideal.div (E (ix2 t ⟨2 + e.val, by omega⟩)) (S (ix1 t)) := by
  pointwise [k0_pay13, k0_pay12]

/-- Their sum over the experts. -/
theorem pay11_at (R R' : Vec Ideal S512x2 .f32) (X : Vec Ideal S256x512 .f32) (t : Fin 256) :
    k0_pay11 R R' X (ix1 t) = ∑ e, expo (gatesAt R R' X t) e := by
  pointwise [k0_pay11]
  simp only [pay10_at]

/-- The two experts on the first half of the partner's tokens, by the weights the partner sent. -/
theorem pay15_at (A A' : Vec Ideal S1x512x1024 .f32) (B B' : Vec Ideal S1x1024x512 .f32) (W : Vec Ideal S256x2 .f32)
    (X : Vec Ideal S128x512 .bf16) (t : Fin 128) (col : Fin 512) :
    k0_pay15 (k0_pay4 A) (k0_pay5 A') (k0_pay6 B) (k0_pay7 B') W X (ix3 0 t col)
      = W (ix2 ⟨t.val, by omega⟩ 0)
          * expertAt (fun k => X (ix2 t k)) (fun k f => A (ix3 0 k f)) (fun f => B (ix3 0 f col))
        + W (ix2 ⟨t.val, by omega⟩ 1)
          * expertAt (fun k => X (ix2 t k)) (fun k f => A' (ix3 0 k f)) (fun f => B' (ix3 0 f col)) := by
  pointwise [k0_pay15, k0_pay4, k0_pay5, k0_pay6, k0_pay7, expertAt]

/-- And on the second half. -/
theorem pay16_at (A A' : Vec Ideal S1x512x1024 .f32) (B B' : Vec Ideal S1x1024x512 .f32) (W : Vec Ideal S256x2 .f32)
    (X : Vec Ideal S128x512 .bf16) (t : Fin 128) (col : Fin 512) :
    k0_pay16 (k0_pay4 A) (k0_pay5 A') (k0_pay6 B) (k0_pay7 B') W X (ix3 0 t col)
      = W (ix2 ⟨128 + t.val, by omega⟩ 0)
          * expertAt (fun k => X (ix2 t k)) (fun k f => A (ix3 0 k f)) (fun f => B (ix3 0 f col))
        + W (ix2 ⟨128 + t.val, by omega⟩ 1)
          * expertAt (fun k => X (ix2 t k)) (fun k f => A' (ix3 0 k f)) (fun f => B' (ix3 0 f col)) := by
  pointwise [k0_pay16, k0_pay4, k0_pay5, k0_pay6, k0_pay7, expertAt]

/-- The first half of the result: the device's own part and the part received. -/
theorem pay18_at (O : FVec Ideal S256x512 .f32) (C : FVec Ideal S1x128x512 .bf16) (t : Fin 128) (col : Fin 512) :
    k0_pay18 (k0_pay17 O) C (ix2 t col)
      = O (ix2 ⟨t.val, by omega⟩ col) + C (ix3 0 t col) := by
  pointwise [k0_pay18, k0_pay17]

/-- And the second half. -/
theorem pay1_at (O : FVec Ideal S256x512 .f32) (C : FVec Ideal S1x128x512 .bf16) (t : Fin 128) (col : Fin 512) :
    k0_pay1 (k0_pay19 O) (k0_pay20 C) (ix2 t col)
      = O (ix2 ⟨128 + t.val, by omega⟩ col) + C (ix3 0 t col) := by
  pointwise [k0_pay1, k0_pay19, k0_pay20]

end Cert.KernelIdeal.Exchange

end
-- ==== Proof.Block.lean ====
/-
What the kernel's result block holds at one place: the token's weights times the four experts, two of them on the device
and two on its partner.
-/
module

public import proofs.«01_k».proof.Proof.Expert
public import Idealize.ShloMosaic.Lib.Pipeline.ValueKit.Tiles

@[expose] public section

set_option maxRecDepth 16384

noncomputable section

namespace Cert.KernelIdeal.Exchange

open Cert.KernelIdeal Cert.KernelIdeal.Gen
open Idealize.ShloMosaic
open Idealize.ShloMosaic.TcCoe
open Idealize.SL.Sem
open Cert.Rows

variable (m : (ℓ : Loc nD τ sig) → Buf (Elt Ideal) ℓ)

/-- The weights of token `t` of device `c`, the device's own experts first. -/
def wts (c : Dev nD) (t : Fin 256) : Fin 4 → EReal := weight (gatesAt (rt m c) (rt m (peer c)) (xs m c) t)

/-- Expert `j` of device `d` on token `t` of device `c`. -/
def expt (c d : Dev nD) (j : Fin 2) (t : Fin 256) (col : Fin 512) : EReal :=
  expertAt (fun k => xs m c (ix2 t k)) (fun k f => w1 m d (ix3 j k f)) (fun f => w2 m d (ix3 j f col))

/-- The two experts of a device, each matrix read out of the device's pair. -/
theorem a0_at (c : Dev nD) (k : Fin 512) (f : Fin 1024) : a0 m c (ix3 0 k f) = w1 m c (ix3 0 k f) :=
  congrArg (w1 m c) (funext fun a => Fin.ext ((Rect.idx_unit_val ..).trans (by fin_cases a <;> exact Nat.zero_add _)))
theorem a1_at (c : Dev nD) (k : Fin 512) (f : Fin 1024) : a1 m c (ix3 0 k f) = w1 m c (ix3 1 k f) :=
  congrArg (w1 m c) (funext fun a => Fin.ext ((Rect.idx_unit_val ..).trans (by fin_cases a <;> first | rfl | exact Nat.zero_add _)))
theorem b0_at (c : Dev nD) (k : Fin 1024) (f : Fin 512) : b0 m c (ix3 0 k f) = w2 m c (ix3 0 k f) :=
  congrArg (w2 m c) (funext fun a => Fin.ext ((Rect.idx_unit_val ..).trans (by fin_cases a <;> exact Nat.zero_add _)))
theorem b1_at (c : Dev nD) (k : Fin 1024) (f : Fin 512) : b1 m c (ix3 0 k f) = w2 m c (ix3 1 k f) :=
  congrArg (w2 m c) (funext fun a => Fin.ext ((Rect.idx_unit_val ..).trans (by fin_cases a <;> first | rfl | exact Nat.zero_add _)))

/-- The device's own experts on its tokens, weighted. -/
theorem own_at (c : Dev nD) (t : Fin 256) (col : Fin 512) :
    own m c (ix2 t col) = wts m c t 0 * expt m c c 0 t col + wts m c t 1 * expt m c c 1 t col := by
  unfold own
  rw [pay14_at, pay8_at, pay9_at]
  unfold ex exSum
  simp only [pay10_at, pay11_at, a0_at, a1_at, b0_at, b1_at]
  rfl

/-- The weights sent to the partner. -/
theorem ws_at (c : Dev nD) (t : Fin 256) (j : Fin 2) : ws m c (ix2 t j) = wts m c t ⟨2 + j.val, by omega⟩ := by
  unfold ws
  rw [pay13_at]
  unfold ex exSum
  simp only [pay10_at, pay11_at]
  rfl

/-- The narrow format holds the same numbers. -/
theorem xn_at (c : Dev nD) (i : S256x512.Idx) : xn m c i = xs m c i := by
  unfold xn
  idx_vars i
  pointwise [k0_pay3, k0_pay2]

/-- What the partner sends back for the first half of the device's tokens. -/
theorem ch0_at (c : Dev nD) (t : Fin 128) (col : Fin 512) :
    ch0 m (peer c) (ix3 0 t col)
      = wts m c ⟨t.val, by omega⟩ 2 * expt m c (peer c) 0 ⟨t.val, by omega⟩ col
        + wts m c ⟨t.val, by omega⟩ 3 * expt m c (peer c) 1 ⟨t.val, by omega⟩ col := by
  unfold ch0
  rw [pay15_at, peer_peer]
  have hx : ∀ k : Fin 512, top (xn m c) (ix2 t k) = xs m c (ix2 ⟨t.val, by omega⟩ k) := fun k =>
    (xn_at m c _).trans (congrArg (xs m c) (funext fun a => by match a with | 0 => rfl | 1 => rfl))
  have e0 := ws_at m c ⟨t.val, by omega⟩ 0
  have e1 := ws_at m c ⟨t.val, by omega⟩ 1
  simp only [a0_at, a1_at, b0_at, b1_at]
  rw [funext hx]
  exact congrArg₂ (· + ·) (congrArg (· * _) e0) (congrArg (· * _) e1)

/-- And for the second half. -/
theorem ch1_at (c : Dev nD) (t : Fin 128) (col : Fin 512) :
    ch1 m (peer c) (ix3 0 t col)
      = wts m c ⟨128 + t.val, by omega⟩ 2 * expt m c (peer c) 0 ⟨128 + t.val, by omega⟩ col
        + wts m c ⟨128 + t.val, by omega⟩ 3 * expt m c (peer c) 1 ⟨128 + t.val, by omega⟩ col := by
  unfold ch1
  rw [pay16_at, peer_peer]
  have hx : ∀ k : Fin 512, bot (xn m c) (ix2 t k) = xs m c (ix2 ⟨128 + t.val, by omega⟩ k) := fun k =>
    (xn_at m c _).trans (congrArg (xs m c) (funext fun a => by match a with | 0 => rfl | 1 => rfl))
  have e0 := ws_at m c ⟨128 + t.val, by omega⟩ 0
  have e1 := ws_at m c ⟨128 + t.val, by omega⟩ 1
  simp only [a0_at, a1_at, b0_at, b1_at]
  rw [funext hx]
  exact congrArg₂ (· + ·) (congrArg (· * _) e0) (congrArg (· * _) e1)

/-- The result block: the weights times the experts, the device's two and then its partner's two. -/
theorem outAt_at (c : Dev nD) (t : Fin 256) (col : Fin 512) :
    outAt m c (ix2 t col)
      = (wts m c t 0 * expt m c c 0 t col + wts m c t 1 * expt m c c 1 t col)
        + (wts m c t 2 * expt m c (peer c) 0 t col + wts m c t 3 * expt m c (peer c) 1 t col) := by
  by_cases h : t.val < 128
  · have h1 : outAt m c (ix2 t col) = out0 m c (ix2 ⟨t.val, h⟩ col) :=
      (dif_pos h).trans (congrArg (out0 m c) (funext fun a => by match a with | 0 => rfl | 1 => rfl))
    rw [h1]
    unfold out0
    rw [pay18_at]
    exact congrArg₂ (· + ·) (own_at m c t col) (ch0_at m c ⟨t.val, h⟩ col)
  · have h1 : outAt m c (ix2 t col) = out1 m c (ix2 ⟨t.val - 128, by omega⟩ col) :=
      (dif_neg h).trans (congrArg (out1 m c) (funext fun a => by match a with | 0 => rfl | 1 => rfl))
    have ht : (⟨128 + (t.val - 128), by omega⟩ : Fin 256) = t := Fin.ext (by show 128 + (t.val - 128) = t.val; omega)
    rw [h1]
    unfold out1
    rw [pay1_at]
    have h2 := ch1_at m c ⟨t.val - 128, by omega⟩ col
    simp only [ht] at h2
    exact congrArg₂ (· + ·) ((congrArg (fun s => own m c (ix2 s col)) ht).trans (own_at m c t col)) h2

end Cert.KernelIdeal.Exchange

end
-- ==== Proof.Layer.lean ====
/-
The layer on the whole arrays, and the kernel's blocks as blocks of it.
-/
module

public import proofs.«01_k».proof.Proof.Block
public import Idealize.ShloMosaic.Lib.Layout

@[expose] public section

set_option maxRecDepth 16384

noncomputable section

namespace Cert.KernelIdeal.Exchange

open Cert.KernelIdeal Cert.KernelIdeal.Gen
open Idealize.ShloMosaic
open Idealize.ShloMosaic.TcCoe
open Idealize.SL.Sem
open Cert.Rows

/-- The whole arrays: the tokens (and the result), the router, and the experts' first and second matrices. -/
abbrev WholeX : Type := (⟨2, ![512, 512]⟩ : Shape).Idx → EReal
abbrev WholeR : Type := (⟨2, ![512, 4]⟩ : Shape).Idx → EReal
abbrev WholeA : Type := (⟨3, ![4, 512, 1024]⟩ : Shape).Idx → EReal
abbrev WholeB : Type := (⟨3, ![4, 1024, 512]⟩ : Shape).Idx → EReal

/-- The gate of token `t` for expert `e`. -/
def gate (X : WholeX) (R : WholeR) (t : Fin 512) (e : Fin 4) : EReal := ∑ k : Fin 512, X (ix2 t k) * R (ix2 k e)

/-- Expert `e` on token `t`, one column of it. -/
def hidden (X : WholeX) (A : WholeA) (B : WholeB) (e : Fin 4) (t col : Fin 512) : EReal :=
  expertAt (fun k => X (ix2 t k)) (fun k f => A (ix3 e k f)) (fun f => B (ix3 e f col))

/-- The layer: each token's experts, weighted. -/
def layerAt (X : WholeX) (R : WholeR) (A : WholeA) (B : WholeB) (t col : Fin 512) : EReal :=
  ∑ e, weight (gate X R t) e * hidden X A B e t col

/-- The result as an array. -/
def layer (X : WholeX) (R : WholeR) (A : WholeA) (B : WholeB) : WholeX := fun i => layerAt X R A B (i 0) (i 1)

/-! ## Where a device's blocks lie -/

/-- The devices form two groups. -/
theorem half_lt (c : Dev nD) : c.val / 2 < 2 := by revert c; decide

/-- Token `t` of device `c`, among all. -/
def token (c : Dev nD) (t : Fin 256) : Fin 512 := ⟨c.val / 2 * 256 + t.val, by have h := half_lt c; omega⟩

/-- The experts as device `c` numbers them: its own two first. -/
def expert (c : Dev nD) : Equiv.Perm (Fin 4) :=
  Equiv.addLeft ⟨c.val / 2 * 2, by have h := half_lt c; omega⟩

/-- A device's own experts are its group's. -/
theorem expert_own (c : Dev nD) (j : Fin 2) : (expert c ⟨j.val, by omega⟩).val = c.val / 2 * 2 + j.val := by
  revert c j; decide
/-- The other two are its partner's. -/
theorem expert_other (c : Dev nD) (j : Fin 2) : (expert c ⟨2 + j.val, by omega⟩).val = (peer c).val / 2 * 2 + j.val := by
  revert c j; decide

/-- The number of a device's group. -/
theorem lin (c : Dev nD) : Layout.meshLin [2, 2] c.val [0] = c.val / 2 := by revert c; decide

variable (m : (ℓ : Loc nD τ sig) → Buf (Elt Ideal) ℓ)
variable (X : WholeX) (R : WholeR) (A : WholeA) (B : WholeB)

/-- Every device holds its blocks of the whole arrays. -/
structure Held : Prop where
  x : ∀ c : Dev nD, m ((c : Thread nD τ).loc main_arg0)
    = Layout.blockN ⟨2, ![256, 512]⟩ ⟨2, ![512, 512]⟩ (Layout.meshBlock [2, 2] ![[0], []] c) X
  r : ∀ c : Dev nD, m ((c : Thread nD τ).loc main_arg1)
    = Layout.blockN ⟨2, ![512, 2]⟩ ⟨2, ![512, 4]⟩ (Layout.meshBlock [2, 2] ![[], [0]] c) R
  a : ∀ c : Dev nD, m ((c : Thread nD τ).loc main_arg2)
    = Layout.blockN ⟨3, ![2, 512, 1024]⟩ ⟨3, ![4, 512, 1024]⟩ (Layout.meshBlock [2, 2] ![[0], [], []] c) A
  b : ∀ c : Dev nD, m ((c : Thread nD τ).loc main_arg3)
    = Layout.blockN ⟨3, ![2, 1024, 512]⟩ ⟨3, ![4, 1024, 512]⟩ (Layout.meshBlock [2, 2] ![[0], [], []] c) B

/-- A block of rows, at one place. -/
theorem rows_at {α : Type} (c : Dev nD) (Y : (⟨2, ![512, 512]⟩ : Shape).Idx → α) (t : Fin 256) (k : Fin 512) :
    (Layout.blockN ⟨2, ![256, 512]⟩ ⟨2, ![512, 512]⟩ (Layout.meshBlock [2, 2] ![[0], []] c) Y : (⟨2, ![256, 512]⟩ : Shape).Idx → α) (ix2 t k)
      = Y (ix2 (token c t) k) :=
  congrArg Y (funext fun a => Fin.ext (by
    match a with
    | 0 => exact congrArg (fun n => n * 256 + t.val) (lin c)
    | 1 => show 0 * 512 + k.val = k.val; omega))

variable {m X R A B}

/-- A device's tokens. -/
theorem Held.x_at (h : Held m X R A B) (c : Dev nD) (t : Fin 256) (k : Fin 512) : xs m c (ix2 t k) = X (ix2 (token c t) k) := by
  have e : xs m c (ix2 t k) = m ((c : Thread nD τ).loc main_arg0) (ix2 t k) := by
    refine congrArg (m ((c : Thread nD τ).loc main_arg0)) (funext fun a => Fin.ext ?_)
    match a with
    | 0 => show 0 * 256 + 1 * t.val = t.val; omega
    | 1 => show 0 * 512 + 1 * k.val = k.val; omega
  rw [e, h.x c]
  exact rows_at c X t k

/-- A device's columns of the router. -/
theorem Held.r_at (h : Held m X R A B) (c : Dev nD) (k : Fin 512) (j : Fin 2) (e : Fin 4) (he : e.val = c.val / 2 * 2 + j.val) :
    rt m c (ix2 k j) = R (ix2 k e) := by
  have e1 : rt m c (ix2 k j) = m ((c : Thread nD τ).loc main_arg1) (ix2 k j) := by
    refine congrArg (m ((c : Thread nD τ).loc main_arg1)) (funext fun a => Fin.ext ?_)
    match a with
    | 0 => show 0 * 512 + 1 * k.val = k.val; omega
    | 1 => show 0 * 2 + 1 * j.val = j.val; omega
  rw [e1, h.r c]
  exact congrArg R (funext fun a => Fin.ext (by
    match a with
    | 0 => show 0 * 512 + k.val = k.val; omega
    | 1 => exact (congrArg (fun n => n * 2 + j.val) (lin c)).trans he.symm))

/-- A device's first matrices. -/
theorem Held.a_at (h : Held m X R A B) (c : Dev nD) (j : Fin 2) (k : Fin 512) (f : Fin 1024) (e : Fin 4)
    (he : e.val = c.val / 2 * 2 + j.val) : w1 m c (ix3 j k f) = A (ix3 e k f) := by
  unfold w1
  rw [h.a c]
  exact congrArg A (funext fun a => Fin.ext (by
    match a with
    | 0 => exact (congrArg (fun n => n * 2 + j.val) (lin c)).trans he.symm
    | 1 => show 0 * 512 + k.val = k.val; omega
    | 2 => show 0 * 1024 + f.val = f.val; omega))

/-- A device's second matrices. -/
theorem Held.b_at (h : Held m X R A B) (c : Dev nD) (j : Fin 2) (f : Fin 1024) (k : Fin 512) (e : Fin 4)
    (he : e.val = c.val / 2 * 2 + j.val) : w2 m c (ix3 j f k) = B (ix3 e f k) := by
  unfold w2
  rw [h.b c]
  exact congrArg B (funext fun a => Fin.ext (by
    match a with
    | 0 => exact (congrArg (fun n => n * 2 + j.val) (lin c)).trans he.symm
    | 1 => show 0 * 1024 + f.val = f.val; omega
    | 2 => show 0 * 512 + k.val = k.val; omega))

/-! ## The kernel's blocks -/

/-- A device's gates are those of its tokens, in its own numbering. -/
theorem Held.gates (h : Held m X R A B) (c : Dev nD) (t : Fin 256) :
    gatesAt (rt m c) (rt m (peer c)) (xs m c) t = fun e => gate X R (token c t) (expert c e) := by
  funext e
  refine Finset.sum_congr rfl fun k _ => ?_
  rw [h.x_at c t k]
  refine congrArg (X (ix2 (token c t) k) * ·) ?_
  by_cases he : e.val < 2
  · rw [dif_pos he]
    exact h.r_at c k ⟨e.val, he⟩ (expert c e) (expert_own c ⟨e.val, he⟩)
  · rw [dif_neg he]
    have h2 := expert_other c ⟨e.val - 2, by omega⟩
    have h3 : (⟨2 + (e.val - 2), by omega⟩ : Fin 4) = e := Fin.ext (by show 2 + (e.val - 2) = e.val; omega)
    exact h.r_at (peer c) k ⟨e.val - 2, by omega⟩ (expert c e) ((congrArg (fun i => (expert c i).val) h3).symm.trans h2)

/-- And its weights. -/
theorem Held.weights (h : Held m X R A B) (c : Dev nD) (t : Fin 256) (e : Fin 4) :
    wts m c t e = weight (gate X R (token c t)) (expert c e) := by
  unfold wts
  rw [h.gates c t]
  exact weight_comp (expert c) (gate X R (token c t)) e

/-- Expert `j` of device `d` on a token of device `c`. -/
theorem Held.experts (h : Held m X R A B) (c d : Dev nD) (j : Fin 2) (t : Fin 256) (col : Fin 512) (e : Fin 4)
    (he : e.val = d.val / 2 * 2 + j.val) : expt m c d j t col = hidden X A B e (token c t) col := by
  unfold expt hidden
  rw [funext fun k => h.x_at c t k, funext fun k => funext fun f => h.a_at d j k f e he, funext fun f => h.b_at d j f col e he]

/-- The kernel's result, at one place of a device's block, is the layer's. -/
theorem Held.out (h : Held m X R A B) (c : Dev nD) (t : Fin 256) (col : Fin 512) :
    outAt m c (ix2 t col) = layerAt X R A B (token c t) col := by
  rw [outAt_at]
  unfold layerAt
  rw [← Equiv.sum_comp (expert c), Fin.sum_univ_four]
  simp only [h.weights c t]
  rw [h.experts c c 0 t col (expert c 0) (expert_own c 0), h.experts c c 1 t col (expert c 1) (expert_own c 1),
    h.experts c (peer c) 0 t col (expert c 2) (expert_other c 0), h.experts c (peer c) 1 t col (expert c 3) (expert_other c 1)]
  exact (add_assoc _ _ _).symm

/-- The result block of a device is its block of the layer. -/
theorem Held.block (h : Held m X R A B) (c : Dev nD) (i : (⟨2, ![256, 512]⟩ : Shape).Idx) :
    outAt m c i = (Layout.blockN ⟨2, ![256, 512]⟩ ⟨2, ![512, 512]⟩ (Layout.meshBlock [2, 2] ![[0], []] c) (layer X R A B)
      : (⟨2, ![256, 512]⟩ : Shape).Idx → EReal) i := by
  idx_vars i
  exact (h.out c i0 i1).trans (rows_at c (layer X R A B) i0 i1).symm

end Cert.KernelIdeal.Exchange

end
-- ==== Proof.Mask.lean ====
/-
Where the mask holds: the two largest gates of the row stand above the others.
-/
module

public import proofs.«01_k».proof.On_untied
public import proofs.«01_k».proof.Proof.Layer
public import proofs.«01_k».proof.Proof.Gen.On_untied
public import Idealize.ShloMosaic.Lib.Pointwise

@[expose] public section

set_option maxRecDepth 16384

noncomputable section

namespace Cert.On_untied

open Idealize.ShloMosaic
open Cert.KernelIdeal.Exchange (WholeX WholeR WholeA WholeB gate)
open Cert.Rows

/-- How many gates are no smaller than gate `e`, as a word. -/
def rank (g : Fin 4 → EReal) (e : Fin 4) : BitVec 32 :=
  Finset.univ.fold IntOp.addi (0#32) fun f => BitVec.setWidth 32 (BitVec.ofBool (decide (g e ≤ g f)))

/-- A fold over the experts, written out. -/
theorem fold_four {β : Type} (op : β → β → β) [Std.Commutative op] [Std.Associative op] (z : β) (f : Fin 4 → β) :
    Finset.univ.fold op z f = op (f 0) (op (f 1) (op (f 2) (op (f 3) z))) := rfl

/-- A bit that is one is true. -/
theorem bit_one : ∀ b : Bool, BitVec.ofBool b = 1#1 → b = true := by decide

/-- A comparison of words that holds. -/
theorem cmpi_eq (x y : BitVec 32) (h : IntOp.cmpi CmpIPredicate.eq x y = 1#1) : x = y :=
  eq_of_beq (bit_one _ h)

/-- Both of a conjunction hold. -/
theorem and_one : ∀ a b : BitVec 1, IntOp.andi a b = 1#1 → a = 1#1 ∧ b = 1#1 := by decide

/-- One of a disjunction holds. -/
theorem or_one : ∀ a b : BitVec 1, IntOp.ori a b = 1#1 → a = 1#1 ∨ b = 1#1 := by decide

/-- A disjunction over the experts holds at one of them. -/
theorem some_one (f : Fin 4 → BitVec 1) (h : Finset.univ.fold IntOp.ori (0#1) f = 1#1) : ∃ e, f e = 1#1 := by
  rw [fold_four] at h
  rcases or_one _ _ h with h | h
  · exact ⟨0, h⟩
  rcases or_one _ _ h with h | h
  · exact ⟨1, h⟩
  rcases or_one _ _ h with h | h
  · exact ⟨2, h⟩
  rcases or_one _ _ h with h | h
  · exact ⟨3, h⟩
  exact absurd h (by decide)

/-- Four bits, counted as words. -/
def count (b0 b1 b2 b3 : Bool) : BitVec 32 :=
  IntOp.addi (BitVec.setWidth 32 (BitVec.ofBool b0)) (IntOp.addi (BitVec.setWidth 32 (BitVec.ofBool b1))
    (IntOp.addi (BitVec.setWidth 32 (BitVec.ofBool b2)) (IntOp.addi (BitVec.setWidth 32 (BitVec.ofBool b3)) (0#32))))

/-- If one bit is set, it is the one that is known to be. -/
theorem count_one : ∀ (b0 b1 b2 b3 : Bool) (e : Fin 4), count b0 b1 b2 b3 = 1#32 → (![b0, b1, b2, b3] : Fin 4 → Bool) e = true →
    ∀ f, f ≠ e → (![b0, b1, b2, b3] : Fin 4 → Bool) f = false := by decide

/-- If two bits are set, they are the two that are known to be. -/
theorem count_two : ∀ (b0 b1 b2 b3 : Bool) (e a : Fin 4), count b0 b1 b2 b3 = 2#32 → (![b0, b1, b2, b3] : Fin 4 → Bool) e = true →
    (![b0, b1, b2, b3] : Fin 4 → Bool) a = true → a ≠ e → ∀ f, f ≠ e → f ≠ a → (![b0, b1, b2, b3] : Fin 4 → Bool) f = false := by decide

/-- A function of the experts, listed. -/
theorem listed (p : Fin 4 → Bool) : (![p 0, p 1, p 2, p 3] : Fin 4 → Bool) = p := by
  funext e
  match e with
  | 0 => rfl
  | 1 => rfl
  | 2 => rfl
  | 3 => rfl

/-- A gate of rank one is above every other. -/
theorem rank_one {g : Fin 4 → EReal} {a : Fin 4} (h : rank g a = 1#32) : ∀ e, e ≠ a → g e < g a := by
  intro e he
  have k := count_one _ _ _ _ a ((fold_four _ _ _).symm.trans h)
  rw [listed fun f => decide (g a ≤ g f)] at k
  exact not_le.mp (of_decide_eq_false (k (decide_eq_true le_rfl) e he))

/-- A gate of rank two is above every other but one that is larger. -/
theorem rank_two {g : Fin 4 → EReal} {a b : Fin 4} (h : rank g b = 2#32) (hab : a ≠ b) (hlt : g b < g a) :
    ∀ e, e ≠ a → e ≠ b → g e < g b := by
  intro e hea heb
  have k := count_two _ _ _ _ b a ((fold_four _ _ _).symm.trans h)
  rw [listed fun f => decide (g b ≤ g f)] at k
  exact not_le.mp (of_decide_eq_false (k (decide_eq_true le_rfl) (decide_eq_true hlt.le) hab e heb hea))

/-- The word that the mask compares with is plus infinity. -/
theorem ofBits_top : Ideal.ofBits .f32 0x7F800000#32 = ⊤ := by simp [Ideal.ofBits, Ideal.ieee]

/-- Where the mask holds, two gates of the row stand above the others. -/
theorem tops (X : WholeX) (R : WholeR) (A : WholeA) (B : WholeB) (t col : Fin 512)
    (h : fn (F := Ideal) X R A B (ix2 t col) = 1#1) : ∃ a b, Tops (gate X R t) a b := by
  have e : fn (F := Ideal) X R A B (ix2 t col) = IntOp.andi
      (Finset.univ.fold IntOp.ori (0#1) fun a => IntOp.andi (IntOp.cmpi CmpIPredicate.eq (rank (gate X R t) a) 1#32)
        (BitVec.ofBool (decide (gate X R t a < Ideal.ofBits .f32 0x7F800000#32))))
      (Finset.univ.fold IntOp.ori (0#1) fun b => IntOp.cmpi CmpIPredicate.eq (rank (gate X R t) b) 2#32) := by
    pointwise [fn, fn_part1]
    rfl
  obtain ⟨h1, h2⟩ := and_one _ _ (e.symm.trans h)
  obtain ⟨a, ha⟩ := some_one _ h1
  obtain ⟨b, hb⟩ := some_one _ h2
  obtain ⟨ha, hf⟩ := and_one _ _ ha
  have ha := cmpi_eq _ _ ha
  have hb := cmpi_eq _ _ hb
  have hne : b ≠ a := fun hab => absurd (ha.symm.trans (hab ▸ hb)) (by decide)
  have hf : gate X R t a < ⊤ := ofBits_top ▸ of_decide_eq_true (bit_one _ hf)
  exact ⟨a, b, hne, rank_one ha, rank_two hb hne.symm (rank_one ha b hne), hf⟩

end Cert.On_untied

end
-- ==== Proof.Choice.lean ====
/-
What the reference computes for one token: its two experts, their gates and the weights.
-/
module

public import proofs.«01_k».proof.Proof.Layer
public import proofs.«01_k».proof.Proof.Gen.ReferenceIdeal.Run
public import Idealize.ShloMosaic.Lib.Pointwise
public import Idealize.ShloMosaic.Lib.SortFacts
public import Idealize.ShloMosaic.Lib.Tactic.CleanTypes

@[expose] public section

set_option maxRecDepth 16384

noncomputable section

namespace Cert.ReferenceIdeal.Choice

open Cert.ReferenceIdeal Cert.ReferenceIdeal.Gen Cert.ReferenceIdeal.Value
open Idealize.ShloMosaic Idealize.SL.Sem
open Cert.KernelIdeal.Exchange (WholeX WholeR WholeA WholeB gate hidden layerAt)
open Cert.Rows

variable (V : Valuation τ sig (Elt Ideal))

/-- The arguments, as arrays. -/
def argX : WholeX := V (Proc.devRef .tc main_arg0)
def argR : WholeR := V (Proc.devRef .tc main_arg1)
def argA : WholeA := V (Proc.devRef .tc main_arg2)
def argB : WholeB := V (Proc.devRef .tc main_arg3)

/-- The gates of token `t`. -/
abbrev gates (t : Fin 512) : Fin 4 → EReal := gate (argX V) (argR V) t

/-- The array of gates. -/
theorem v0_at (t : Fin 512) (e : Fin 4) : (res_main_v0 V : S512x4.Idx → EReal) (ix2 t e) = gates V t e := by
  clean_types
  pointwise [res_main_v0]
  rfl

/-- The gates with their sign changed, which are what is sorted. -/
theorem v1_at (t : Fin 512) (e : Fin 4) : (res_main_v1 V : S512x4.Idx → EReal) (ix2 t e) = -gates V t e := by
  rw [← v0_at]
  rfl

/-! ## The order -/

/-- The sort's comparison puts the smaller entry first. -/
theorem before_at (l r : Ideal .f32 × BitVec 32) :
    comparator_f32_i32_d1 (F := Ideal) l r = BitVec.ofBool (decide ((l.1 : EReal) < r.1)) := by
  have zero (x : Ideal .f32) : Scalar.select (FloatOps.cmpf .oeq x (FloatOps.ofBits .f32 0x00000000#32)) (FloatOps.ofBits .f32 0x00000000#32) x = x := by
    show (if BitVec.ofBool (decide ((x : EReal) = FloatOps.ofBits (F := Ideal) .f32 0x00000000#32)) = 1 then _ else _) = _
    by_cases h : (x : EReal) = FloatOps.ofBits (F := Ideal) .f32 0x00000000#32
    · rw [decide_eq_true h, if_pos (by decide)]
      exact h.symm
    · rw [decide_eq_false h, if_neg (by decide)]
  have same (x y z : Ideal .f32) : Scalar.select (FloatOps.cmpf .une x x) y z = z := by
    show (if BitVec.ofBool (decide ((x : EReal) ≠ x)) = 1 then _ else _) = _
    rw [decide_eq_false (not_not.mpr rfl), if_neg (by decide)]
  unfold comparator_f32_i32_d1
  dsimp only
  rw [same, same, zero, zero]
  rfl

/-- The experts of a token, the largest gate first. -/
def order (g : Fin 4 → EReal) : Fin 4 → Fin 4 := sortedFrom fun k k' => decide (-g k < -g k')

/-- A sort of pairs along the rows, its second component. -/
theorem sort_at (cmp : EReal × BitVec 32 → EReal × BitVec 32 → BitVec 1) (x : S512x4.Idx → EReal) (y : S512x4.Idx → BitVec 32)
    (t : Fin 512) (e : Fin 4) : (Host.sort2 S512x4 1 cmp x y).2 (ix2 t e)
      = y (ix2 t (sortedFrom (fun k k' : Fin 4 => cmp (x (ix2 t k), y (ix2 t k)) (x (ix2 t k'), y (ix2 t k')) == 1#1) e)) := by
  have al (k : Fin 4) : (ix2 t e : S512x4.Idx).along 1 k = ix2 t k := by
    funext a
    match a with
    | 0 => rfl
    | 1 => rfl
  show y ((ix2 t e : S512x4.Idx).along 1 (sortedFrom (fun k k' : Fin 4 => cmp (x ((ix2 t e : S512x4.Idx).along 1 k), y ((ix2 t e : S512x4.Idx).along 1 k))
    (x ((ix2 t e : S512x4.Idx).along 1 k'), y ((ix2 t e : S512x4.Idx).along 1 k')) == 1#1) e)) = _
  simp only [al]
  exact congrArg y (al _)

/-- The two experts of a token. -/
theorem v3_at (t : Fin 512) (e : Fin 2) : (res_main_v3 V : S512x2.Idx → BitVec 32) (ix2 t e)
    = BitVec.ofNat 32 (order (gates V t) ⟨e.val, by omega⟩).val := by
  clean_types
  pointwise [res_main_v3]
  refine (sort_at _ _ _ t ⟨e.val, by omega⟩).trans ?_
  have hb (b : Bool) : (BitVec.ofBool b == 1#1) = b := by cases b <;> rfl
  have hs : (fun k k' : Fin 4 => (comparator_f32_i32_d1 (F := Ideal) (res_main_v1 V (ix2 t k), res_main_call0_v0 V (ix2 t k))
      (res_main_v1 V (ix2 t k'), res_main_call0_v0 V (ix2 t k')) == 1#1)) = fun k k' => decide (-gates V t k < -gates V t k') := by
    funext k k'
    rw [before_at, hb]
    exact congrArg₂ (fun x y : EReal => decide (x < y)) (v1_at V t k) (v1_at V t k')
  exact (congrArg (fun p : Fin 4 → Fin 4 → Bool => res_main_call0_v0 V (ix2 t (sortedFrom p ⟨e.val, by omega⟩))) hs).trans rfl

/-- An earlier place never has a smaller gate. -/
theorem order_le (g : Fin 4 → EReal) (i j : Fin 4) (h : i < j) : g (order g j) ≤ g (order g i) := by
  have k := sortedFrom_noInversion (fun k k' : Fin 4 => decide (-g k < -g k')) (fun k k' => decide (-g k < -g k'))
    (fun a b hab => decide_eq_false (not_lt.mpr (of_decide_eq_true hab).le)) (fun _ _ h => h)
    (fun a b c hab hbc => decide_eq_false (not_lt.mpr ((not_lt.mp (of_decide_eq_false hbc)).trans (not_lt.mp (of_decide_eq_false hab)))))
    i j h
  exact EReal.neg_le_neg_iff.mp (not_lt.mp (of_decide_eq_false k))

/-- No expert stands at two places. -/
theorem order_inj (g : Fin 4 → EReal) : Function.Injective (order g) := sortedFrom_injective _

variable {g : Fin 4 → EReal} {a b : Fin 4}

/-- The first is the one with the largest gate. -/
theorem order_first (h : Tops g a b) : order g 0 = a := by
  obtain ⟨k, hk⟩ := sortedFrom_surjective (fun k k' : Fin 4 => decide (-g k < -g k')) a
  change order g k = a at hk
  by_contra hne
  have hk0 : (0 : Fin 4) < k := Fin.pos_iff_ne_zero.mpr fun h0 => hne (h0 ▸ hk)
  exact absurd (hk ▸ order_le g 0 k hk0) (not_le.mpr (h.top _ hne))

/-- The second is the one with the next. -/
theorem order_second (h : Tops g a b) : order g 1 = b := by
  obtain ⟨k, hk⟩ := sortedFrom_surjective (fun k k' : Fin 4 => decide (-g k < -g k')) b
  change order g k = b at hk
  by_contra hne
  have h0 : k ≠ 0 := fun h0 => h.ne (hk.symm.trans (h0 ▸ order_first h))
  have h1 : k ≠ 1 := fun h1 => hne (h1 ▸ hk)
  have hk1 : (1 : Fin 4) < k := by
    have key : ∀ k : Fin 4, k ≠ 0 → k ≠ 1 → 1 < k := by decide
    exact key k h0 h1
  have ha : order g 1 ≠ a := fun ha => absurd (order_inj g (ha.trans (order_first h).symm)) (by decide)
  exact absurd (hk ▸ order_le g 1 k hk1) (not_le.mpr (h.next _ ha hne))

/-! ## The two gates and their weights -/

/-- Reading one entry of each row. -/
theorem gather_at (x : S512x4.Idx → EReal) (idx : IVec S512x2x1 32) (t : Fin 512) (e : Fin 2) (k : Fin 4)
    (hk : idx (ix3 t e 0) = BitVec.ofNat 32 k.val) :
    Host.gather gather_S512x4_S512x2x1_S512x2_n_1_0_0_1_2_11 x idx (ix2 t e) = x (ix2 t k) := by
  unfold Host.gather
  refine congrArg x (funext fun a => Fin.ext ?_)
  match a with
  | 0 =>
    show gather_S512x4_S512x2x1_S512x2_n_1_0_0_1_2_11.start (ix2 t e) idx 0
      + gather_S512x4_S512x2x1_S512x2_n_1_0_0_1_2_11.batchCoord (ix2 t e) 0
      + gather_S512x4_S512x2x1_S512x2_n_1_0_0_1_2_11.offCoord (ix2 t e) 0 = t.val
    rw [GatherDims.start_batching _ _ _ _ (by decide),
      GatherDims.offCoord_eq_zero _ _ _ (fun h => ((GatherDims.mem_sKept _ _).mp h).2 (by decide)), Nat.zero_add, Nat.add_zero]
    unfold GatherDims.batchCoord
    rw [dif_pos (by decide)]
    rfl
  | 1 =>
    have hi : gather_S512x4_S512x2x1_S512x2_n_1_0_0_1_2_11.siIdx (ix2 t e) ⟨0, by decide⟩ = ix3 t e 0 := by
      funext b
      refine Fin.ext ?_
      match b with
      | 0 => rfl
      | 1 => rfl
      | 2 => rfl
    show min (idx (gather_S512x4_S512x2x1_S512x2_n_1_0_0_1_2_11.siIdx (ix2 t e) ⟨0, by decide⟩)).toInt.toNat 3 + 0 + 0 = k.val
    rw [hi, hk]
    exact (by decide : ∀ k : Fin 4, min (BitVec.ofNat 32 k.val).toInt.toNat 3 = k.val) k

/-- A position that is not negative is read as it stands. -/
theorem call5_at (t : Fin 512) (e : Fin 2) (k : Fin 4) (hk : (res_main_v3 V : S512x2.Idx → BitVec 32) (ix2 t e) = BitVec.ofNat 32 k.val) :
    (res_main_call1_v5 V : S512x2x1.Idx → BitVec 32) (ix3 t e 0) = BitVec.ofNat 32 k.val := by
  clean_types
  pointwise [res_main_call1_v5]
  have hs : ∀ k : Fin 4, Scalar.select (IntOp.cmpi CmpIPredicate.slt (BitVec.ofNat 32 k.val) 0#32)
      (IntOp.addi (BitVec.ofNat 32 k.val) 4#32) (BitVec.ofNat 32 k.val) = BitVec.ofNat 32 k.val := by decide
  exact (congrArg (fun w => Scalar.select (IntOp.cmpi CmpIPredicate.slt w 0#32) (IntOp.addi w 4#32) w) hk).trans (hs k)

/-- Whether a position lies within a row. -/
theorem within_at (w : IVec S512x2x1 32) (t : Fin 512) (e : Fin 2) (k : Fin 4) (hk : w (ix3 t e 0) = BitVec.ofNat 32 k.val) :
    Host.reduce IntOp.andi (andi (cmpi .sge w (broadcastInDim S512x2x1 ![] bcast_S_S512x2x1 (constantI S_ 32 0#32)))
      (cmpi .sle w (broadcastInDim S512x2x1 ![0, 1, 2] bcast_S1x1x1_S512x2x1_0_1_2 (broadcastInDim S1x1x1 ![2] bcast_S1_S1x1x1_2 (constantI S1 32 3#32)))))
      (constantI S_ 1 1#1) reducesTo_S512x2x1_S512x2_d2 h_S_ (ix2 t e) = 1#1 := by
  pointwise []
  have hw (j : Fin 1) : w (ix3 t e j) = BitVec.ofNat 32 k.val := (congrArg (fun j => w (ix3 t e j)) (Subsingleton.elim j 0)).trans hk
  simp only [hw]
  exact (by decide : ∀ k : Fin 4, IntOp.andi (IntOp.andi (IntOp.cmpi CmpIPredicate.sge (BitVec.ofNat 32 k.val) 0#32)
    (IntOp.cmpi CmpIPredicate.sle (BitVec.ofNat 32 k.val) 3#32)) (1#1) = 1#1) k

/-- The greater of a row of two. -/
theorem max_at (x : S512x2.Idx → EReal) (t : Fin 512) :
    (Host.reduce (FloatOps.maximumf (F := Ideal) (φ := .f32)) x (constant (F := Ideal) S_ .f32 0xFF800000#32) reducesTo_S512x2_S512_d1 h_S_ : S512.Idx → EReal) (ix1 t)
      = max (x (ix2 t 0)) (x (ix2 t 1)) := by
  pointwise []
  rw [Cert.KernelIdeal.Exchange.ofBits_low]
  show max (x (ix2 t 0)) (max (x (ix2 t 1)) ⊥) = _
  rw [max_bot_right]

/-- One number per row, spread over the row's two places. -/
theorem spread_at (y : S512.Idx → EReal) (t : Fin 512) (e : Fin 2) :
    broadcastInDim S512x2 ![0, 1] bcast_S512x1_S512x2_0_1 (broadcastInDim S512x1 ![0] bcast_S512_S512x1_0 y) (ix2 t e) = y (ix1 t) := by
  pointwise []

/-- A chosen expert's gate. -/
theorem v4_at (t : Fin 512) (e : Fin 2) :
    (res_main_v4 V : S512x2.Idx → EReal) (ix2 t e) = gates V t (order (gates V t) ⟨e.val, by omega⟩) := by
  have h5 := call5_at V t e _ (v3_at V t e)
  have hg := gather_at (res_main_v0 V) (res_main_call1_v5 V) t e _ h5
  have hw := within_at (res_main_call1_v5 V) t e _ h5
  show Scalar.select _ _ _ = _
  unfold Scalar.select
  refine (if_pos hw).trans (hg.trans (v0_at V t _))

/-- The exponentials and the weights, as arrays. -/
def powers : S512x2.Idx → EReal := res_main_v9 V
def weights : S512x2.Idx → EReal := res_main_v13 V

/-- A chosen expert's exponential: of its gate, less the greater of the two. -/
theorem powers_at (t : Fin 512) (e : Fin 2) : powers V (ix2 t e)
    = Ideal.exp (gates V t (order (gates V t) ⟨e.val, by omega⟩)
      - max (gates V t (order (gates V t) 0)) (gates V t (order (gates V t) 1))) := by
  have hm := (spread_at _ t e).trans <| (max_at (res_main_v4 V) t).trans (congrArg₂ max (v4_at V t 0) (v4_at V t 1))
  exact congrArg₂ (fun y z : EReal => Ideal.exp (y - z)) (v4_at V t e) hm

/-- The weights of the two experts. -/
theorem weights_at (t : Fin 512) (e : Fin 2) :
    weights V (ix2 t e) = Ideal.div (powers V (ix2 t e)) (powers V (ix2 t 0) + powers V (ix2 t 1)) := by
  refine Eq.trans ?_ (congrArg (Ideal.div _) (Fin.sum_univ_two fun j => powers V (ix2 t j)))
  unfold weights
  clean_types
  pointwise [res_main_v13]
  rfl

variable {V}

/-- With two gates above the others, the exponentials are those of the two. -/
theorem powers_top {t : Fin 512} (h : Tops (gates V t) a b) :
    powers V (ix2 t 0) = Ideal.exp (gates V t a - gates V t a) := by
  rw [powers_at]
  show Ideal.exp (gates V t (order (gates V t) 0) - _) = _
  rw [order_first h, order_second h, max_eq_left (h.top b h.ne).le]

/-- The second exponential. -/
theorem powers_next {t : Fin 512} (h : Tops (gates V t) a b) :
    powers V (ix2 t 1) = Ideal.exp (gates V t b - gates V t a) := by
  rw [powers_at]
  show Ideal.exp (gates V t (order (gates V t) 1) - _) = _
  rw [order_first h, order_second h, max_eq_left (h.top b h.ne).le]

/-- And the weights are the kernel's. -/
theorem weights_top {t : Fin 512} (h : Tops (gates V t) a b) : weights V (ix2 t 0) = weight (gates V t) a := by
  rw [weights_at, powers_top h, powers_next h, h.weight_top]

/-- The second weight. -/
theorem weights_next {t : Fin 512} (h : Tops (gates V t) a b) : weights V (ix2 t 1) = weight (gates V t) b := by
  rw [weights_at, powers_top h, powers_next h, h.weight_next]

/-! ## The result -/

/-- The sum over the experts that keeps one of them. -/
def kept (w : BitVec 32) (p : Fin 4 → EReal) (e : Fin 4) : EReal :=
  Scalar.select (IntOp.cmpi CmpIPredicate.eq w (BitVec.ofNat 32 e.val)) (p e) (id (constant (F := Ideal) S_ FTy.f32 0#32) ix0)

/-- The selection as a case distinction. -/
theorem kept_eq (k e : Fin 4) (p : Fin 4 → EReal) : kept (BitVec.ofNat 32 k.val) p e = if e = k then p e else 0 := by
  have hz : (id (constant (F := Ideal) S_ FTy.f32 0#32) ix0 : EReal) = 0 := by
    show Ideal.ofBits .f32 0#32 = 0
    simp [Ideal.ofBits, Ideal.ieee]
  have hc : ∀ k e : Fin 4, (IntOp.cmpi CmpIPredicate.eq (BitVec.ofNat 32 k.val) (BitVec.ofNat 32 e.val) = 1) ↔ e = k := by decide
  unfold kept Scalar.select
  rw [hz]
  by_cases h : e = k
  · rw [if_pos ((hc k e).mpr h), if_pos h]
  · rw [if_neg fun hh => h ((hc k e).mp hh), if_neg h]

/-- Of the four, only the chosen one remains. -/
theorem kept_sum (k : Fin 4) (p : Fin 4 → EReal) : kept (BitVec.ofNat 32 k.val) p 0 + kept (BitVec.ofNat 32 k.val) p 1
    + kept (BitVec.ofNat 32 k.val) p 2 + kept (BitVec.ofNat 32 k.val) p 3 = p k := by
  rw [← Fin.sum_univ_four, Finset.sum_congr rfl fun e _ => kept_eq k e p, Finset.sum_ite_eq' Finset.univ k p, if_pos (Finset.mem_univ k)]

variable (V) in
/-- What the loop adds for the `j`-th choice and expert `e`. -/
def term (t col : Fin 512) (j : Fin 2) (e : Fin 4) : EReal :=
  kept (BitVec.ofNat 32 (order (gates V t) ⟨j.val, by omega⟩).val)
    (fun e => hidden (argX V) (argA V) (argB V) e t col * weights V (ix2 t j)) e

variable (V) in
theorem term_sum (t col : Fin 512) (j : Fin 2) : term V t col j 0 + term V t col j 1 + term V t col j 2 + term V t col j 3
    = hidden (argX V) (argA V) (argB V) (order (gates V t) ⟨j.val, by omega⟩) t col * weights V (ix2 t j) :=
  kept_sum _ _

variable (V) in
/-- The loop's eight terms, added up in its order. -/
theorem loop_at (t col : Fin 512) : (res_main_v142 V : S512x512.Idx → EReal) (ix2 t col)
    = term V t col 0 0 + term V t col 0 1 + term V t col 0 2 + term V t col 0 3
      + term V t col 1 0 + term V t col 1 1 + term V t col 1 2 + term V t col 1 3 := by
  unfold term
  rw [← v3_at V t 0, ← v3_at V t 1]
  clean_types
  pointwise [res_main_v142, res_main_v78]
  rfl

/-- With two gates above the others, the reference's result is the layer. -/
theorem result_at {t : Fin 512} (h : Tops (gates V t) a b) (col : Fin 512) : (res_main_v142 V : S512x512.Idx → EReal) (ix2 t col)
    = layerAt (argX V) (argR V) (argA V) (argB V) t col := by
  have s0 := term_sum V t col 0
  have s1 := term_sum V t col 1
  change _ = hidden (argX V) (argA V) (argB V) (order (gates V t) 0) t col * _ at s0
  change _ = hidden (argX V) (argA V) (argB V) (order (gates V t) 1) t col * _ at s1
  rw [order_first h, weights_top h] at s0
  rw [order_second h, weights_next h] at s1
  rw [loop_at]
  unfold layerAt
  rw [h.sum_weight, mul_comm (weight _ a), mul_comm (weight _ b), ← s0, ← s1]
  simp only [add_assoc]

end Cert.ReferenceIdeal.Choice

end
-- ==== Proof.Equal.lean ====
/-
The value claim: wherever two gates stand above the others, the kernel and the reference both hold the layer.
-/
module

public import proofs.«01_k».proof.Defs
public import proofs.«01_k».proof.Proof.Frames
public import proofs.«01_k».proof.Proof.Mask
public import proofs.«01_k».proof.Proof.Choice

@[expose] public section

set_option maxRecDepth 16384

noncomputable section

namespace Cert.Proof

open Idealize.ShloMosaic Idealize.ShloMosaic.StableHlo Idealize.SL.Sem
open Cert.KernelIdeal.Exchange (Held layer)
open Cert.ReferenceIdeal.Choice (argX argR argA argB)

/-- The idealized kernel and the reference agree, over exact arithmetic, in every row whose two largest gates stand
    above the others and are not infinite: the reference's array is there the layer of its arguments, and each device
    of the kernel holds its block of the layer. -/
theorem equal : Cert.algebraic_KernelIdeal_ReferenceIdeal_on_untied := fun m g m' g' _ hm => by
  have held : Held m (argX (launchContents m' 0)) (argR (launchContents m' 0)) (argA (launchContents m' 0)) (argB (launchContents m' 0)) :=
    ⟨fun c => (hm c).1, fun c => (hm c).2.1, fun c => (hm c).2.2.1, fun c => (hm c).2.2.2⟩
  refine ⟨layer (argX (launchContents m' 0)) (argR (launchContents m' 0)) (argA (launchContents m' 0)) (argB (launchContents m' 0)),
    (θ_run Cert.KernelIdeal.defs _ _).mono (fun r h c => ⟨fun i _ => ?_, (h.1 c).2⟩) (Cert.KernelIdeal.Exchange.run_main m g),
    (θ_run Cert.ReferenceIdeal.defs _ _).mono (fun r h => ⟨fun i hi => ?_, (h 0).2⟩) (Cert.ReferenceIdeal.Value.run m' g')⟩
  · rw [(h.1 c).1]
    exact held.block c i
  · rw [(h 0).1]
    idx_vars i
    obtain ⟨a, b, tops⟩ := Cert.On_untied.tops _ _ _ _ i0 i1 hi
    exact Cert.ReferenceIdeal.Choice.result_at (V := launchContents m' 0) tops i1

end Cert.Proof

end
-- ==== Proof.lean ====
/-
The proof of `Cert.Claim`: the frames of the three programs, the mask constant, and the equation with
the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_untied
public import proofs.«01_k».proof.Proof.Frames
public import proofs.«01_k».proof.Proof.Reference
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.On_untied.Gen.facts, frame_kernel, frame_ideal, frame_reference, named_mask, equal⟩

end Cert.Proof

end
